-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨4, ![2, 1024, 16, 64]⟩ ⟨4, ![2, 1024, 32, 64]⟩ (Layout.meshBlock [2, 2] ![[], [], [0], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![1024, 2048]⟩ ⟨2, ![2048, 2048]⟩ (Layout.meshBlock [2, 2] ![[0], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = Layout.blockN ⟨3, ![2, 512, 2048]⟩ ⟨3, ![2, 1024, 2048]⟩ (Layout.meshBlock [2, 2] ![[], [0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x1024x16x64 : Shape := ⟨4, ![2, 1024, 16, 64]⟩
abbrev S1024x2048 : Shape := ⟨2, ![1024, 2048]⟩
abbrev S2x16x64x1024 : Shape := ⟨4, ![2, 16, 64, 1024]⟩
abbrev S2x1024x1024 : Shape := ⟨3, ![2, 1024, 1024]⟩
abbrev S2x512x2048 : Shape := ⟨3, ![2, 512, 2048]⟩
abbrev S4x128x2048 : Shape := ⟨3, ![4, 128, 2048]⟩
abbrev S4 : Shape := ⟨1, ![4]⟩
abbrev S_ : Shape := ⟨0, ![]⟩
abbrev S1024x1024 : Shape := ⟨2, ![1024, 1024]⟩
abbrev S1x1024x128 : Shape := ⟨3, ![1, 1024, 128]⟩
abbrev S1024x128 : Shape := ⟨2, ![1024, 128]⟩
abbrev S128x1024 : Shape := ⟨2, ![128, 1024]⟩
abbrev S1x128x1024 : Shape := ⟨3, ![1, 128, 1024]⟩
abbrev S1 : Shape := ⟨1, ![1]⟩
abbrev S1x128x2048 : Shape := ⟨3, ![1, 128, 2048]⟩
abbrev S128x2048 : Shape := ⟨2, ![128, 2048]⟩

abbrev nBuf : Space → Nat
  | .hbm => 5
  | .vmem => 8
  | .smem => 0
  | _ => 0

abbrev bufTy : (tb : Table) → Fin (tcTables nBuf tb) → BufTy
  | .hbm, ⟨0, _⟩ => ⟨S2x1024x16x64, .bf16⟩
  | .hbm, ⟨1, _⟩ => ⟨S1024x2048, .bf16⟩
  | .hbm, ⟨2, _⟩ => ⟨S2x16x64x1024, .bf16⟩
  | .hbm, ⟨3, _⟩ => ⟨S2x1024x1024, .bf16⟩
  | .hbm, ⟨4, _⟩ => ⟨S2x512x2048, .f32⟩
  | .local _ .vmem, ⟨0, _⟩ => ⟨S2x1024x1024, .bf16⟩
  | .local _ .vmem, ⟨1, _⟩ => ⟨S1024x2048, .bf16⟩
  | .local _ .vmem, ⟨2, _⟩ => ⟨S2x512x2048, .f32⟩
  | .local _ .vmem, ⟨3, _⟩ => ⟨S1024x2048, .bf16⟩
  | .local _ .vmem, ⟨4, _⟩ => ⟨S4x128x2048, .bf16⟩
  | .local _ .vmem, ⟨5, _⟩ => ⟨S4x128x2048, .bf16⟩
  | .local _ .vmem, ⟨6, _⟩ => ⟨S4x128x2048, .bf16⟩
  | .local _ .vmem, ⟨7, _⟩ => ⟨S4x128x2048, .bf16⟩
  | _, _ => ⟨S2x1024x16x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  (ofTc nBuf bufTy 1 19 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_5 : BitVec 32 := 2#32
  let v9 : BitVec 32 := Scalar.muli v6 c2_i32_5
  let v10 : BitVec 32 := Scalar.addi c0_i32 v9
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_6 : BitVec 32 := 1#32
  let v11 : BitVec 32 := Scalar.muli v5 c1_i32_6
  let v12 : BitVec 32 := Scalar.addi v10 v11
  v12.toNat
def k0_dev2 (d0 : Dev nD) : Nat :=
  let c0_i32_9 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_8 : BitVec 32 := 2#32
  let v13 : BitVec 32 := Scalar.muli v2 c2_i32_8
  let v14 : BitVec 32 := Scalar.addi c0_i32_9 v13
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_10 : BitVec 32 := 1#32
  let v15 : BitVec 32 := Scalar.muli v7 c1_i32_10
  let v16 : BitVec 32 := Scalar.addi v14 v15
  v16.toNat
def k0_off1 (d0 : Dev nD) (c0_i32_15 : BitVec 32) : Fin 3 → Nat :=
  let c0_16 : Index := 0#32
  let c0_17 : Index := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c512_i32 : BitVec 32 := 512#32
  let v22 : BitVec 32 := Scalar.muli v6 c512_i32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c256_i32 : BitVec 32 := 256#32
  let v23 : BitVec 32 := Scalar.muli v5 c256_i32
  let v24 : BitVec 32 := Scalar.addi v22 v23
  let v25 : BitVec 32 := Scalar.addi v24 c0_i32_15
  let v26 : Index := Scalar.indexCast v25
  ![0, 0, v26.toNat]
def k0_dev3 (d0 : Dev nD) : Nat :=
  let c0_i32_37 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_36 : BitVec 32 := 2#32
  let v46 : BitVec 32 := Scalar.muli v6 c2_i32_36
  let v47 : BitVec 32 := Scalar.addi c0_i32_37 v46
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_38 : BitVec 32 := 1#32
  let v48 : BitVec 32 := Scalar.muli v5 c1_i32_38
  let v49 : BitVec 32 := Scalar.addi v47 v48
  v49.toNat
def k0_dev4 (d0 : Dev nD) : Nat :=
  let c0_i32_57 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_56 : BitVec 32 := 2#32
  let v71 : BitVec 32 := Scalar.muli v6 c2_i32_56
  let v72 : BitVec 32 := Scalar.addi c0_i32_57 v71
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_58 : BitVec 32 := 1#32
  let v73 : BitVec 32 := Scalar.muli v5 c1_i32_58
  let v74 : BitVec 32 := Scalar.addi v72 v73
  v74.toNat
def k0_off2 (d0 : Dev nD) (c0_i32_65 : BitVec 32) : Fin 3 → Nat :=
  let c1_66 : Index := 1#32
  let c0_67 : Index := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c512_i32_63 : BitVec 32 := 512#32
  let v83 : BitVec 32 := Scalar.muli v6 c512_i32_63
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c256_i32_64 : BitVec 32 := 256#32
  let v84 : BitVec 32 := Scalar.muli v5 c256_i32_64
  let v85 : BitVec 32 := Scalar.addi v83 v84
  let v86 : BitVec 32 := Scalar.addi v85 c0_i32_65
  let v87 : Index := Scalar.indexCast v86
  ![1, 0, v87.toNat]
def k0_dev5 (d0 : Dev nD) : Nat :=
  let c0_i32_78 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_77 : BitVec 32 := 2#32
  let v96 : BitVec 32 := Scalar.muli v6 c2_i32_77
  let v97 : BitVec 32 := Scalar.addi c0_i32_78 v96
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_79 : BitVec 32 := 1#32
  let v98 : BitVec 32 := Scalar.muli v5 c1_i32_79
  let v99 : BitVec 32 := Scalar.addi v97 v98
  v99.toNat
def k0_dev6 (d0 : Dev nD) : Nat :=
  let c0_i32_98 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_97 : BitVec 32 := 2#32
  let v121 : BitVec 32 := Scalar.muli v6 c2_i32_97
  let v122 : BitVec 32 := Scalar.addi c0_i32_98 v121
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_99 : BitVec 32 := 1#32
  let v123 : BitVec 32 := Scalar.muli v5 c1_i32_99
  let v124 : BitVec 32 := Scalar.addi v122 v123
  v124.toNat
def k0_off3 (d0 : Dev nD) (c0_i32_106 : BitVec 32) : Fin 3 → Nat :=
  let c0_107 : Index := 0#32
  let c0_108 : Index := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32_104 : BitVec 32 := 512#32
  let v133 : BitVec 32 := Scalar.muli v2 c512_i32_104
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c256_i32_105 : BitVec 32 := 256#32
  let v134 : BitVec 32 := Scalar.muli v5 c256_i32_105
  let v135 : BitVec 32 := Scalar.addi v133 v134
  let v136 : BitVec 32 := Scalar.addi v135 c0_i32_106
  let v137 : Index := Scalar.indexCast v136
  ![0, 0, v137.toNat]
def k0_off4 (d0 : Dev nD) (c0_i32_113 : BitVec 32) : Fin 3 → Nat :=
  let c0_114 : Index := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c256_i32_112 : BitVec 32 := 256#32
  let v142 : BitVec 32 := Scalar.muli v5 c256_i32_112
  let v143 : BitVec 32 := Scalar.addi v142 c0_i32_113
  let v144 : Index := Scalar.indexCast v143
  let c0_115 : Index := 0#32
  ![0, v144.toNat, 0]
def k0_off5 (d0 : Dev nD) (c0_i32_130 : BitVec 32) : Fin 3 → Nat :=
  let c1_131 : Index := 1#32
  let c0_132 : Index := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32_128 : BitVec 32 := 512#32
  let v163 : BitVec 32 := Scalar.muli v2 c512_i32_128
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c256_i32_129 : BitVec 32 := 256#32
  let v164 : BitVec 32 := Scalar.muli v5 c256_i32_129
  let v165 : BitVec 32 := Scalar.addi v163 v164
  let v166 : BitVec 32 := Scalar.addi v165 c0_i32_130
  let v167 : Index := Scalar.indexCast v166
  ![1, 0, v167.toNat]
def k0_off6 (d0 : Dev nD) (c0_i32_137 : BitVec 32) : Fin 3 → Nat :=
  let c1_138 : Index := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c256_i32_136 : BitVec 32 := 256#32
  let v172 : BitVec 32 := Scalar.muli v5 c256_i32_136
  let v173 : BitVec 32 := Scalar.addi v172 c0_i32_137
  let v174 : Index := Scalar.indexCast v173
  let c0_139 : Index := 0#32
  ![1, v174.toNat, 0]
def k0_dev7 (d0 : Dev nD) : Nat :=
  let c0_i32_178 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_177 : BitVec 32 := 2#32
  let v216 : BitVec 32 := Scalar.muli v2 c2_i32_177
  let v217 : BitVec 32 := Scalar.addi c0_i32_178 v216
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_179 : BitVec 32 := 1#32
  let v218 : BitVec 32 := Scalar.muli v7 c1_i32_179
  let v219 : BitVec 32 := Scalar.addi v217 v218
  v219.toNat
def k0_dev8 (d0 : Dev nD) : Nat :=
  let c0_i32_212 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_211 : BitVec 32 := 2#32
  let v255 : BitVec 32 := Scalar.muli v2 c2_i32_211
  let v256 : BitVec 32 := Scalar.addi c0_i32_212 v255
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_213 : BitVec 32 := 1#32
  let v257 : BitVec 32 := Scalar.muli v7 c1_i32_213
  let v258 : BitVec 32 := Scalar.addi v256 v257
  v258.toNat
def k0_dev9 (d0 : Dev nD) : Nat :=
  let c0_i32_246 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_245 : BitVec 32 := 2#32
  let v294 : BitVec 32 := Scalar.muli v2 c2_i32_245
  let v295 : BitVec 32 := Scalar.addi c0_i32_246 v294
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_247 : BitVec 32 := 1#32
  let v296 : BitVec 32 := Scalar.muli v7 c1_i32_247
  let v297 : BitVec 32 := Scalar.addi v295 v296
  v297.toNat
def k0_dev10 (d0 : Dev nD) : Nat :=
  let c0_i32_280 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_279 : BitVec 32 := 2#32
  let v333 : BitVec 32 := Scalar.muli v2 c2_i32_279
  let v334 : BitVec 32 := Scalar.addi c0_i32_280 v333
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_281 : BitVec 32 := 1#32
  let v335 : BitVec 32 := Scalar.muli v7 c1_i32_281
  let v336 : BitVec 32 := Scalar.addi v334 v335
  v336.toNat
def k0_off7 (d0 : Dev nD) (c0_i32_303 : BitVec 32) : Fin 3 → Nat :=
  let c0_304 : Index := 0#32
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c256_i32_302 : BitVec 32 := 256#32
  let v362 : BitVec 32 := Scalar.muli v7 c256_i32_302
  let v363 : BitVec 32 := Scalar.addi v362 c0_i32_303
  let v364 : Index := Scalar.indexCast v363
  let c0_305 : Index := 0#32
  ![0, v364.toNat, 0]
def k0_off8 (d0 : Dev nD) (c0_i32_339 : BitVec 32) : Fin 3 → Nat :=
  let c1_340 : Index := 1#32
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c256_i32_338 : BitVec 32 := 256#32
  let v400 : BitVec 32 := Scalar.muli v7 c256_i32_338
  let v401 : BitVec 32 := Scalar.addi v400 c0_i32_339
  let v402 : Index := Scalar.indexCast v401
  let c0_341 : Index := 0#32
  ![1, v402.toNat, 0]
abbrev stage0_0 : Fin 1 → Memref sig .tc .vmem S2x1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x512x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2x1024x32x64 : Shape := ⟨4, ![2, 1024, 32, 64]⟩
abbrev S2048x2048 : Shape := ⟨2, ![2048, 2048]⟩
abbrev S2x1024x2048 : Shape := ⟨3, ![2, 1024, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2x1024x32x64, .bf16⟩
  | .hbm, ⟨1, _⟩ => ⟨S2048x2048, .bf16⟩
  | .hbm, ⟨2, _⟩ => ⟨S2x1024x2048, .bf16⟩
  | .hbm, ⟨3, _⟩ => ⟨S2x1024x2048, .f32⟩
  | .hbm, ⟨4, _⟩ => ⟨S2x1024x2048, .bf16⟩
  | .hbm, ⟨5, _⟩ => ⟨S2x1024x2048, .f32⟩
  | _, _ => ⟨S2x1024x32x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.Plan.lean ====
/- The kernel's body as a plan: a prologue, then steps that are the same for every chunk.

   Each device `(x, y)` of the 2×2 mesh works on four chunks of 128 rows. A chunk `k` is a batch (`k / 2`) and one half of the
   device's 256 rows. The body is: the barrier and the first chunk's product (in two halves, while the weights are copied to a
   scratch buffer), then for the chunks 1, 2, 3 the product the x-neighbour needs and its transfer (`sendStep`), for the chunks
   0–3 the device's own product (`ownStep`), for the chunks 0–3 the sum with what came from the x-neighbour and its transfer to
   the y-neighbour (`sumStep`), for the chunks 0–3 the rows the y-neighbour sent (`takeStep`), and last the waits for the
   device's own transfers (`drainStep`). `body_eq` says that the printed body is this program. -/
module

public import proofs.«01_k».proof.Proof.Gen.KernelIdeal.Skeleton
public import proofs.«01_k».proof.Proof.Gen.KernelIdeal.Frame

@[expose] public section

set_option maxRecDepth 16384

noncomputable section

namespace Cert.KernelIdeal.Plan

open Idealize.ShloMosaic Idealize.ShloMosaic.TcCoe
open Idealize.SL.Sem
open Cert.KernelIdeal.Gen

variable {F : FTy → Type} [FloatOps F]

/-! ## The buffers -/

/-- The transposed activations, batch by position by row. -/
abbrev otM : Memref sig .tc .vmem S2x1024x1024 .bf16 := Memref.whole cc0_stg0_0
/-- The device's half of the weights. -/
abbrev woM : Memref sig .tc .vmem S1024x2048 .bf16 := Memref.whole cc0_stg1_0
/-- The result's rows. -/
abbrev outM : Memref sig .tc .vmem S2x512x2048 .f32 := Memref.whole cc0_stg2_0
/-- The scratch copy of the weights. -/
abbrev wcM : Memref sig .tc .vmem S1024x2048 .bf16 := Memref.whole cc0_scratch0
/-- Four chunks for the x-neighbour, from it, for the y-neighbour, from it. -/
abbrev xsM : Memref sig .tc .vmem S4x128x2048 .bf16 := Memref.whole cc0_scratch1
abbrev xrM : Memref sig .tc .vmem S4x128x2048 .bf16 := Memref.whole cc0_scratch2
abbrev ysM : Memref sig .tc .vmem S4x128x2048 .bf16 := Memref.whole cc0_scratch3
abbrev yrM : Memref sig .tc .vmem S4x128x2048 .bf16 := Memref.whole cc0_scratch4

theorem xsW : xsM.IsWhole := Memref.isWhole_whole _
theorem xrW : xrM.IsWhole := Memref.isWhole_whole _
theorem ysW : ysM.IsWhole := Memref.isWhole_whole _
theorem yrW : yrM.IsWhole := Memref.isWhole_whole _
theorem wcW : wcM.IsWhole := Memref.isWhole_whole _

/-! ## Chunk `k` of a chunk buffer -/

theorem chunk_inb (k : Fin 4) : ∀ a, (![k.val, 0, 0] : Fin 3 → Nat) a + S1x128x2048.size a ≤ S4x128x2048.size a := by
  revert k; decide

/-- Chunk `k`'s box in a buffer of four chunks. -/
abbrev chunkR (k : Fin 4) : Rect S4x128x2048 := Rect.unit (s := S4x128x2048) ![k.val, 0, 0] S1x128x2048.size (chunk_inb k)

theorem chunk_packed (k : Fin 4) : (chunkR k).PackedRows (EltTy.packing .bf16) :=
  match k with
  | 0 => packedbf16_S4x128x2048_S1x128x2048_0_0_0
  | 1 => packedbf16_S4x128x2048_S1x128x2048_1_0_0
  | 2 => packedbf16_S4x128x2048_S1x128x2048_2_0_0
  | 3 => packedbf16_S4x128x2048_S1x128x2048_3_0_0

theorem chunk_words (k : Fin 4) : (chunkR k).WholeWords (EltTy.packing .bf16) :=
  match k with
  | 0 => wordsbf16_S4x128x2048_S1x128x2048_0_0_0
  | 1 => wordsbf16_S4x128x2048_S1x128x2048_1_0_0
  | 2 => wordsbf16_S4x128x2048_S1x128x2048_2_0_0
  | 3 => wordsbf16_S4x128x2048_S1x128x2048_3_0_0

/-- Chunk `k` of a chunk buffer, as a transfer addresses it. -/
abbrev chunkM (m : Memref sig .tc .vmem S4x128x2048 .bf16) (k : Fin 4) : Memref sig .tc .vmem S128x2048 .bf16 :=
  (m.slice (chunkR k) (fun _ => rfl)).squeeze S128x2048 squeezes_S1x128x2048_S128x2048

theorem sem_inb (k : Fin 4) : ∀ a, (![k.val] : Fin 1 → Nat) a + S1.size a ≤ S4.size a := by revert k; decide

/-- Chunk `k`'s semaphore of an array of four. -/
abbrev chunkS (a : DmaSems sig S4) (k : Fin 4) : DmaSem sig :=
  ((a.slice (Rect.unit (s := S4) ![k.val] S1.size (sem_inb k))).squeeze S_ squeezes_S1_S_).sem

/-! ## The devices and the boxes a chunk addresses -/

/-- The x-neighbour, as the barrier's signal names it, -/
def nbX (d : Dev nD) : Dev nD := ⟨k0_dev1 d, k0_dev1_lt d⟩
/-- the y-neighbour, -/
def nbY (d : Dev nD) : Dev nD := ⟨k0_dev2 d, k0_dev2_lt d⟩
/-- the device chunk `k`'s first transfer names, -/
def devX (d : Dev nD) : Fin 4 → Dev nD
  | 0 => ⟨k0_dev3 d, k0_dev3_lt d⟩
  | 1 => ⟨k0_dev4 d, k0_dev4_lt d⟩
  | 2 => ⟨k0_dev5 d, k0_dev5_lt d⟩
  | 3 => ⟨k0_dev6 d, k0_dev6_lt d⟩
/-- and its second. -/
def devY (d : Dev nD) : Fin 4 → Dev nD
  | 0 => ⟨k0_dev7 d, k0_dev7_lt d⟩
  | 1 => ⟨k0_dev8 d, k0_dev8_lt d⟩
  | 2 => ⟨k0_dev9 d, k0_dev9_lt d⟩
  | 3 => ⟨k0_dev10 d, k0_dev10_lt d⟩

/-- Where chunk `k` of the x-neighbour's rows begins in the activations, -/
def nbOff (d : Dev nD) : Fin 4 → Fin 3 → Nat
  | 0 => k0_off1 d 0#32
  | 1 => k0_off1 d 128#32
  | 2 => k0_off2 d 0#32
  | 3 => k0_off2 d 128#32
/-- chunk `k` of the device's own rows there, -/
def ownOff (d : Dev nD) : Fin 4 → Fin 3 → Nat
  | 0 => k0_off3 d 0#32
  | 1 => k0_off3 d 128#32
  | 2 => k0_off5 d 0#32
  | 3 => k0_off5 d 128#32
/-- and the rows of the result: the four chunks the device sums, then the four its y-neighbour does. -/
def rowOff (d : Dev nD) : Bool → Fin 4 → Fin 3 → Nat
  | true, 0 => k0_off4 d 0#32
  | true, 1 => k0_off4 d 128#32
  | true, 2 => k0_off6 d 0#32
  | true, 3 => k0_off6 d 128#32
  | false, 0 => k0_off7 d 0#32
  | false, 1 => k0_off7 d 128#32
  | false, 2 => k0_off8 d 0#32
  | false, 3 => k0_off8 d 128#32

theorem nbOff_inb (d : Dev nD) (k : Fin 4) : ∀ a, nbOff d k a + S1x1024x128.size a ≤ S2x1024x1024.size a :=
  match k with
  | 0 => k0_off1_inb d 0
  | 1 => k0_off1_inb d 1
  | 2 => k0_off2_inb d 0
  | 3 => k0_off2_inb d 1

theorem ownOff_inb (d : Dev nD) (k : Fin 4) : ∀ a, ownOff d k a + S1x1024x128.size a ≤ S2x1024x1024.size a :=
  match k with
  | 0 => k0_off3_inb d 0
  | 1 => k0_off3_inb d 1
  | 2 => k0_off5_inb d 0
  | 3 => k0_off5_inb d 1

theorem rowOff_inb (d : Dev nD) (h : Bool) (k : Fin 4) : ∀ a, rowOff d h k a + S1x128x2048.size a ≤ S2x512x2048.size a :=
  match h, k with
  | true, 0 => k0_off4_inb d 0
  | true, 1 => k0_off4_inb d 1
  | true, 2 => k0_off6_inb d 0
  | true, 3 => k0_off6_inb d 1
  | false, 0 => k0_off7_inb d 0
  | false, 1 => k0_off7_inb d 1
  | false, 2 => k0_off8_inb d 0
  | false, 3 => k0_off8_inb d 1

abbrev nbR (d : Dev nD) (k : Fin 4) : Rect S2x1024x1024 := Rect.unit (s := S2x1024x1024) (nbOff d k) S1x1024x128.size (nbOff_inb d k)
abbrev ownR (d : Dev nD) (k : Fin 4) : Rect S2x1024x1024 := Rect.unit (s := S2x1024x1024) (ownOff d k) S1x1024x128.size (ownOff_inb d k)
abbrev rowR (d : Dev nD) (h : Bool) (k : Fin 4) : Rect S2x512x2048 := Rect.unit (s := S2x512x2048) (rowOff d h k) S1x128x2048.size (rowOff_inb d h k)

/-- The weights' two halves by column, and all of them; the first chunk's two halves by column. -/
abbrev halfL : Rect S1024x2048 := Rect.unit (s := S1024x2048) ![0, 0] S1024x1024.size inb_S1024x2048_S1024x1024_0_0
abbrev halfR : Rect S1024x2048 := Rect.unit (s := S1024x2048) ![0, 1024] S1024x1024.size inb_S1024x2048_S1024x1024_0_1024
abbrev allR : Rect S1024x2048 := Rect.unit (s := S1024x2048) ![0, 0] S1024x2048.size inb_S1024x2048_S1024x2048_0_0
abbrev firstL : Rect S4x128x2048 := Rect.unit (s := S4x128x2048) ![0, 0, 0] S1x128x1024.size inb_S4x128x2048_S1x128x1024_0_0_0
abbrev firstR : Rect S4x128x2048 := Rect.unit (s := S4x128x2048) ![0, 0, 1024] S1x128x1024.size inb_S4x128x2048_S1x128x1024_0_0_1024

/-! ## The steps -/

abbrev P (F : FTy → Type) (α : Type) : Type 1 := Prog (TpuEff nD τ sig (Elt F) Λ₀ .tc) α

/-- Chunk `k`'s transfer to the x-neighbour. -/
def putX (d : Dev nD) (k : Fin 4) : P F PUnit :=
  Prog.lift (.enqueueDma (chunkM xsM k) (.remote (Dev.tc (devX d k)) (chunkM xrM k) (.dma (chunkS cc0_scratch5 k))) (.dma (chunkS cc0_scratch6 k))
    ((xsW.wordExact_slice rfl _ (chunk_words k)).reshape _ _) ((xrW.wordExact_slice rfl _ (chunk_words k)).reshape _ _) ⟨⟨rfl, Or.inl rfl⟩, trivial⟩)

/-- Chunk `k`'s transfer to the y-neighbour. -/
def putY (d : Dev nD) (k : Fin 4) : P F PUnit :=
  Prog.lift (.enqueueDma (chunkM ysM k) (.remote (Dev.tc (devY d k)) (chunkM yrM k) (.dma (chunkS cc0_scratch7 k))) (.dma (chunkS cc0_scratch8 k))
    ((ysW.wordExact_slice rfl _ (chunk_words k)).reshape _ _) ((yrW.wordExact_slice rfl _ (chunk_words k)).reshape _ _) ⟨⟨rfl, Or.inl rfl⟩, trivial⟩)

/-- The wait, on semaphore `s`, for a transfer from chunk `k` of one buffer to chunk `k` of another. -/
def await (s : DmaSem sig) (a b : Memref sig .tc .vmem S4x128x2048 .bf16) (ha : a.IsWhole) (hb : b.IsWhole) (k : Fin 4) : P F PUnit :=
  Prog.lift (.waitDma2 s (chunkM a k) (chunkM b k) ((ha.wordExact_slice rfl _ (chunk_words k)).reshape _ _) ((hb.wordExact_slice rfl _ (chunk_words k)).reshape _ _))

/-- The barrier: a signal to either neighbour, then the wait for both of theirs. -/
def meet (d : Dev nD) : P F PUnit := do
  semSignalWord (nbX d) ((SemArray.scalar (sig.barrier 0 rfl) : Sems sig S_).sem) 1#32
  semSignalWord (nbY d) ((SemArray.scalar (sig.barrier 0 rfl) : Sems sig S_).sem) 1#32
  semWaitWord ((SemArray.scalar (sig.barrier 0 rfl) : Sems sig S_).sem) 2#32

/-- The weights copied to scratch half by half, each half used at once for the first chunk's product. -/
def first (d : Dev nD) : P F PUnit := do
  let w₀ : Vec F S1024x1024 .bf16 ← Prog.lift (.load woM halfL.toLoadRect (View.loadsAt_vmem h_S1024x1024))
  let _ : Vec F S1024x1024 .bf16 ← Prog.lift (.load wcM halfL.toLoadRect (View.loadsAt_vmem h_S1024x1024))
  Prog.lift (.store wcM halfL (k0_pay1 w₀) Finset.univ (View.stores_vmem h_S1024x1024 (wcW.storeExact_slice rfl _ packedbf16_S1024x2048_S1024x1024_0_0) (fun _ => rfl)) (.inl rfl))
  let a : Vec F S1x1024x128 .bf16 ← Prog.lift (.load otM (nbR d 0).toLoadRect (View.loadsAt_vmem h_S1x1024x128))
  let v₀ : Vec F S1024x1024 .bf16 ← Prog.lift (.load wcM halfL.toLoadRect (View.loadsAt_vmem h_S1024x1024))
  let _ : Vec F S1x128x1024 .bf16 ← Prog.lift (.load xsM firstL.toLoadRect (View.loadsAt_vmem h_S1x128x1024))
  Prog.lift (.store xsM firstL (k0_pay3 (k0_pay2 a) v₀) Finset.univ (View.stores_vmem h_S1x128x1024 (xsW.storeExact_slice rfl _ packedbf16_S4x128x2048_S1x128x1024_0_0_0) (fun _ => rfl)) (.inl rfl))
  let w₁ : Vec F S1024x1024 .bf16 ← Prog.lift (.load woM halfR.toLoadRect (View.loadsAt_vmem h_S1024x1024))
  let _ : Vec F S1024x1024 .bf16 ← Prog.lift (.load wcM halfR.toLoadRect (View.loadsAt_vmem h_S1024x1024))
  Prog.lift (.store wcM halfR (k0_pay4 w₁) Finset.univ (View.stores_vmem h_S1024x1024 (wcW.storeExact_slice rfl _ packedbf16_S1024x2048_S1024x1024_0_1024) (fun _ => rfl)) (.inl rfl))
  let v₁ : Vec F S1024x1024 .bf16 ← Prog.lift (.load wcM halfR.toLoadRect (View.loadsAt_vmem h_S1024x1024))
  let _ : Vec F S1x128x1024 .bf16 ← Prog.lift (.load xsM firstR.toLoadRect (View.loadsAt_vmem h_S1x128x1024))
  Prog.lift (.store xsM firstR (k0_pay5 (k0_pay2 a) v₁) Finset.univ (View.stores_vmem h_S1x128x1024 (xsW.storeExact_slice rfl _ packedbf16_S4x128x2048_S1x128x1024_0_0_1024) (fun _ => rfl)) (.inl rfl))

/-- Chunk `k`'s product for the x-neighbour, and its transfer. -/
def sendStep (d : Dev nD) (k : Fin 4) : P F PUnit := do
  let a : Vec F S1x1024x128 .bf16 ← Prog.lift (.load otM (nbR d k).toLoadRect (View.loadsAt_vmem h_S1x1024x128))
  let w : Vec F S1024x2048 .bf16 ← Prog.lift (.load wcM allR.toLoadRect (View.loadsAt_vmem h_S1024x2048))
  let _ : Vec F S1x128x2048 .bf16 ← Prog.lift (.load xsM (chunkR k).toLoadRect (View.loadsAt_vmem h_S1x128x2048))
  Prog.lift (.store xsM (chunkR k) (k0_pay6 a w) Finset.univ (View.stores_vmem h_S1x128x2048 (xsW.storeExact_slice rfl _ (chunk_packed k)) (fun _ => rfl)) (.inl rfl))
  putX d k

/-- Chunk `k`'s product for the device itself, into the result. -/
def ownStep (d : Dev nD) (k : Fin 4) : P F PUnit := do
  let a : Vec F S1x1024x128 .bf16 ← Prog.lift (.load otM (ownR d k).toLoadRect (View.loadsAt_vmem h_S1x1024x128))
  let w : Vec F S1024x2048 .bf16 ← Prog.lift (.load wcM allR.toLoadRect (View.loadsAt_vmem h_S1024x2048))
  let _ : Vec F S1x128x2048 .f32 ← Prog.lift (.load outM (rowR d true k).toLoadRect (View.loadsAt_vmem h_S1x128x2048))
  Prog.lift (.store outM (rowR d true k) (k0_pay11 a w) Finset.univ (View.stores_vmem_bits_univ h_S1x128x2048 rfl) (.inl rfl))

/-- Chunk `k` from the x-neighbour awaited, the sum sent to the y-neighbour and kept in the result. -/
def sumStep (d : Dev nD) (k : Fin 4) : P F PUnit := do
  await (chunkS cc0_scratch6 k) xsM xrM xsW xrW k
  let u : Vec F S1x128x2048 .f32 ← Prog.lift (.load outM (rowR d true k).toLoadRect (View.loadsAt_vmem h_S1x128x2048))
  let v : Vec F S1x128x2048 .bf16 ← Prog.lift (.load xrM (chunkR k).toLoadRect (View.loadsAt_vmem h_S1x128x2048))
  let _ : Vec F S1x128x2048 .bf16 ← Prog.lift (.load ysM (chunkR k).toLoadRect (View.loadsAt_vmem h_S1x128x2048))
  Prog.lift (.store ysM (chunkR k) (k0_pay20 u v) Finset.univ (View.stores_vmem h_S1x128x2048 (ysW.storeExact_slice rfl _ (chunk_packed k)) (fun _ => rfl)) (.inl rfl))
  putY d k
  let _ : Vec F S1x128x2048 .f32 ← Prog.lift (.load outM (rowR d true k).toLoadRect (View.loadsAt_vmem h_S1x128x2048))
  Prog.lift (.store outM (rowR d true k) (k0_pay21 u v) Finset.univ (View.stores_vmem_bits_univ h_S1x128x2048 rfl) (.inl rfl))

/-- Chunk `k` from the y-neighbour awaited and kept in the result. -/
def takeStep (d : Dev nD) (k : Fin 4) : P F PUnit := do
  await (chunkS cc0_scratch8 k) ysM yrM ysW yrW k
  let v : Vec F S1x128x2048 .bf16 ← Prog.lift (.load yrM (chunkR k).toLoadRect (View.loadsAt_vmem h_S1x128x2048))
  let _ : Vec F S1x128x2048 .f32 ← Prog.lift (.load outM (rowR d false k).toLoadRect (View.loadsAt_vmem h_S1x128x2048))
  Prog.lift (.store outM (rowR d false k) (k0_pay30 v) Finset.univ (View.stores_vmem_bits_univ h_S1x128x2048 rfl) (.inl rfl))

/-- The waits for chunk `k`'s two transfers from this device. -/
def drainStep (k : Fin 4) : P F PUnit := do
  await (chunkS cc0_scratch5 k) xrM xsM xrW xsW k
  await (chunkS cc0_scratch7 k) yrM ysM yrW ysW k

/-- The body: the prologue, then the steps chunk by chunk. -/
def plan : P F PUnit := do
  let d : Dev nD ← Prog.lift .deviceId
  meet d
  first d
  putX d 0
  sendStep d 1
  sendStep d 2
  sendStep d 3
  ownStep d 0
  ownStep d 1
  ownStep d 2
  ownStep d 3
  sumStep d 0
  sumStep d 1
  sumStep d 2
  sumStep d 3
  takeStep d 0
  takeStep d 1
  takeStep d 2
  takeStep d 3
  drainStep 0
  drainStep 1
  drainStep 2
  drainStep 3

set_option maxRecDepth 65536 in
/-- The printed body is the plan. -/
theorem body_eq : bodyAt0 (F := F) t0_0 = plan := by
  show cc0_body (F := F) otM (Memref.isWhole_whole _) woM (Memref.isWhole_whole _) outM (Memref.isWhole_whole _) wcM wcW xsM xsW xrM xrW ysM ysW yrM yrW
    cc0_scratch5 cc0_scratch6 cc0_scratch7 cc0_scratch8 = plan
  rw [cc0_body_eq_skeleton]
  rfl

end Cert.KernelIdeal.Plan

end
-- ==== Proof.Proto.lean ====
/- The protocol of the kernel's transfers.

   Each device has one barrier cell, paid by either neighbour with that neighbour's receive buffer, and sixteen transfer
   cells `(a, k)`: `a = 0` the chunk sent to the x-neighbour has left, `1` the x-neighbour's has come, `2` the one sent to the
   y-neighbour has left, `3` the y-neighbour's has come. Cell `(a, k)` pays chunk `k` of buffer `a` holding the value
   `cv c a k`, a function of all devices' activations and weights. -/
module

public import proofs.«01_k».proof.Proof.Plan
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

set_option maxRecDepth 16384

noncomputable section

namespace Cert.KernelIdeal.Proto

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.KernelIdeal.Plan

variable {F : FTy → Type} [FloatOps F]

/-! ## The resource algebra -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-! ## The neighbours -/

theorem nbX_val (c : Dev nD) : (nbX c).val = ((c.val % 2) + 2) - 2 * (c.val / 2) := k0_dev1_eq c
theorem nbY_val (c : Dev nD) : (nbY c).val = (2 * (c.val / 2) + 1) - (c.val % 2) := k0_dev2_eq c
theorem nbX_nbX (c : Dev nD) : nbX (nbX c) = c := Fin.ext (by rw [nbX_val, nbX_val]; have : c.val < 4 := c.isLt; omega)
theorem nbY_nbY (c : Dev nD) : nbY (nbY c) = c := Fin.ext (by rw [nbY_val, nbY_val]; have : c.val < 4 := c.isLt; omega)
theorem devX_eq (c : Dev nD) (k : Fin 4) : devX c k = nbX c :=
  Fin.ext (by rw [nbX_val]; match k with | 0 => exact k0_dev3_eq c | 1 => exact k0_dev4_eq c | 2 => exact k0_dev5_eq c | 3 => exact k0_dev6_eq c)
theorem devY_eq (c : Dev nD) (k : Fin 4) : devY c k = nbY c :=
  Fin.ext (by rw [nbY_val]; match k with | 0 => exact k0_dev7_eq c | 1 => exact k0_dev8_eq c | 2 => exact k0_dev9_eq c | 3 => exact k0_dev10_eq c)
def swapX : Dev nD ≃ Dev nD := ⟨nbX, nbX, nbX_nbX, nbX_nbX⟩
def swapY : Dev nD ≃ Dev nD := ⟨nbY, nbY, nbY_nbY, nbY_nbY⟩
/-- The neighbour along x (`true`) or along y. -/
def nb (b : Bool) (c : Dev nD) : Dev nD := match b with | true => nbX c | false => nbY c
theorem nb_nb (b : Bool) (c : Dev nD) : nb b (nb b c) = c := match b with | true => nbX_nbX c | false => nbY_nbY c
def swap (b : Bool) : Dev nD ≃ Dev nD := ⟨nb b, nb b, nb_nb b, nb_nb b⟩

/-! ## The cells -/

abbrev barS : Sem sig := (SemArray.scalar (sig.barrier 0 rfl) : Sems sig S_).sem
/-- Transfer semaphore `(a, k)`. -/
def cmS (a k : Fin 4) : DmaSem sig := ⟨3 + 4 * a.val + k.val, by show _ < 19; omega⟩
theorem sem0 (k : Fin 4) : chunkS cc0_scratch5 k = cmS 0 k := by revert k; decide
theorem sem1 (k : Fin 4) : chunkS cc0_scratch6 k = cmS 1 k := by revert k; decide
theorem sem2 (k : Fin 4) : chunkS cc0_scratch7 k = cmS 2 k := by revert k; decide
theorem sem3 (k : Fin 4) : chunkS cc0_scratch8 k = cmS 3 k := by revert k; decide

abbrev barCell (c : Dev nD) : GSem nD τ sig := ((c : Thread nD τ), .reg barS)
abbrev cmCell (c : Dev nD) (a k : Fin 4) : GSem nD τ sig := ((c : Thread nD τ), .dma (cmS a k))

/-- A transfer semaphore's array and chunk. -/
def arrOf (s : DmaSem sig) : Fin 4 := ⟨(s.val - 3) / 4 % 4, by omega⟩
def chkOf (s : DmaSem sig) : Fin 4 := ⟨(s.val - 3) % 4, by omega⟩
theorem arrOf_cmS (a k : Fin 4) : arrOf (cmS a k) = a := Fin.ext (by show (3 + 4 * a.val + k.val - 3) / 4 % 4 = a.val; omega)
theorem chkOf_cmS (a k : Fin 4) : chkOf (cmS a k) = k := Fin.ext (by show (3 + 4 * a.val + k.val - 3) % 4 = k.val; omega)
theorem cmS_inj {a k a' k' : Fin 4} (h : cmS a k = cmS a' k') : a = a' ∧ k = k' :=
  ⟨by rw [← arrOf_cmS a k, h, arrOf_cmS], by rw [← chkOf_cmS a k, h, chkOf_cmS]⟩

/-- Buffer `a`. -/
def bufOf : Fin 4 → Memref sig .tc .vmem S4x128x2048 .bf16
  | 0 => xsM
  | 1 => xrM
  | 2 => ysM
  | 3 => yrM

/-- The credit of one chunk. -/
abbrev N : ℕ := (chunkM xsM 0).view.dmaCredit
theorem N_pos : 0 < N := View.dmaCredit_pos _ (by decide)

/-! ## The values -/

variable (ot : Dev nD → Vec F S2x1024x1024 .bf16) (wo : Dev nD → Vec F S1024x2048 .bf16)

/-- The activations under chunk `k` of the x-neighbour's rows, and of the device's own. -/
def nbAct (c : Dev nD) (k : Fin 4) : Vec F S1x1024x128 .bf16 := otM.view.readAt (Elt F) (nbR c k).toLoadRect (ot c)
def ownAct (c : Dev nD) (k : Fin 4) : Vec F S1x1024x128 .bf16 := otM.view.readAt (Elt F) (ownR c k).toLoadRect (ot c)
/-- The weights' halves. -/
def woL (c : Dev nD) : Vec F S1024x1024 .bf16 := woM.view.readAt (Elt F) halfL.toLoadRect (wo c)
def woR (c : Dev nD) : Vec F S1024x1024 .bf16 := woM.view.readAt (Elt F) halfR.toLoadRect (wo c)
/-- The scratch copy's writes, the latest first, and what is read of it whole. -/
def wcWrites (c : Dev nD) : List (View.Piece (Elt F) S1024x2048 .bf16) := [⟨halfR, k0_pay4 (woR wo c)⟩, ⟨halfL, k0_pay1 (woL wo c)⟩]
def wcV (c : Dev nD) : Vec F S1024x2048 .bf16 := wcM.view.readCov (wcWrites wo c) allR.toLoadRect
/-- The first chunk's writes, by its two halves. -/
def firstWrites (c : Dev nD) : List (View.Piece (Elt F) S4x128x2048 .bf16) :=
  [⟨firstR, k0_pay5 (k0_pay2 (nbAct ot c 0)) (k0_pay4 (woR wo c))⟩, ⟨firstL, k0_pay3 (k0_pay2 (nbAct ot c 0)) (k0_pay1 (woL wo c))⟩]
/-- Chunk `k` for the x-neighbour. -/
def xV (c : Dev nD) (k : Fin 4) : Vec F S1x128x2048 .bf16 :=
  if k = 0 then xsM.view.readCov (firstWrites ot wo c) (chunkR 0).toLoadRect else k0_pay6 (nbAct ot c k) (wcV wo c)
/-- Chunk `k`'s own product, -/
def ownV (c : Dev nD) (k : Fin 4) : Vec F S1x128x2048 .f32 := k0_pay11 (ownAct ot c k) (wcV wo c)
/-- its sum with what the x-neighbour sends, as kept, -/
def sumV (c : Dev nD) (k : Fin 4) : Vec F S1x128x2048 .f32 := k0_pay21 (ownV ot wo c k) (xV ot wo (nbX c) k)
/-- and as sent to the y-neighbour, -/
def yV (c : Dev nD) (k : Fin 4) : Vec F S1x128x2048 .bf16 := k0_pay20 (ownV ot wo c k) (xV ot wo (nbX c) k)
/-- and what the y-neighbour's rows become. -/
def takenV (c : Dev nD) (k : Fin 4) : Vec F S1x128x2048 .f32 := k0_pay30 (yV ot wo (nbY c) k)

/-- What chunk `k` of buffer `a` holds when its cell is paid. -/
def cv (c : Dev nD) (a k : Fin 4) : Vec F S1x128x2048 .bf16 :=
  match a with
  | 0 => xV ot wo c k
  | 1 => xV ot wo (nbX c) k
  | 2 => yV ot wo c k
  | 3 => yV ot wo (nbY c) k

/-! ## Chunks held -/

/-- Chunk `k` of `M` on device `c`, at contents `f`, -/
def chunkPt (M : Memref sig .tc .vmem S4x128x2048 .bf16) (c : Dev nD) (k : Fin 4) (f : M.view.ty.Contents (Elt F)) : sProp 𝕄 :=
  (chunkM M k).view.loc (c : Thread nD τ) ↦[(chunkM M k).view.set]{fullShare} f
/-- at contents not chosen, -/
def chunkAny (M : Memref sig .tc .vmem S4x128x2048 .bf16) (c : Dev nD) (k : Fin 4) : sProp 𝕄 := iprop(∃ f, chunkPt M c k f)
/-- and holding `v`. -/
def chunkAt (M : Memref sig .tc .vmem S4x128x2048 .bf16) (c : Dev nD) (k : Fin 4) (v : Vec F S1x128x2048 .bf16) : sProp 𝕄 :=
  iprop(∃ f, chunkPt M c k f ∗ ⌜M.view.readAt (Elt F) (chunkR k).toLoadRect f = v⌝)

omit [FloatOps F] in
theorem chunkAt_any (M : Memref sig .tc .vmem S4x128x2048 .bf16) (c : Dev nD) (k : Fin 4) (v : Vec F S1x128x2048 .bf16) :
    (chunkAt M c k v : sProp 𝕄) ⊢ chunkAny M c k := by
  unfold chunkAt chunkAny
  iintro ⟨%f, H, -⟩; iexists f; iexact H

omit [FloatOps F] in
instance chunkPt_storable (M : Memref sig .tc .vmem S4x128x2048 .bf16) (c : Dev nD) (k : Fin 4) (f) :
    BI.Storable (upEmb : UEmb _ 𝕄) (chunkPt (F := F) M c k f) := by unfold chunkPt; infer_instance
omit [FloatOps F] in
instance chunkAny_storable (M : Memref sig .tc .vmem S4x128x2048 .bf16) (c : Dev nD) (k : Fin 4) :
    BI.Storable (upEmb : UEmb _ 𝕄) (chunkAny (F := F) M c k) := by unfold chunkAny; infer_instance
omit [FloatOps F] in
instance chunkAt_storable (M : Memref sig .tc .vmem S4x128x2048 .bf16) (c : Dev nD) (k : Fin 4) (v) :
    BI.Storable (upEmb : UEmb _ 𝕄) (chunkAt (F := F) M c k v) := by unfold chunkAt; infer_instance

/-! ## The schedule -/

/-- The receive array along x, and along y. -/
def rcv : Bool → Fin 4
  | true => 1
  | false => 3

/-- What the neighbour along `b` pays to `c`'s barrier cell: its receive buffer, chunk by chunk, each chunk's cell being open. -/
def barPay (c : Dev nD) (b : Bool) : sProp 𝕄 :=
  bigSep Finset.univ fun k : Fin 4 => iprop(chunkAny (bufOf (rcv b)) (nb b c) k ∗ reached ER (cmCell (nb b c) (rcv b) k) 0)
/-- What transfer cell `(a, k)` is paid. -/
def cmPay (c : Dev nD) (a k : Fin 4) : sProp 𝕄 := chunkAt (bufOf a) c k (cv ot wo c a k)

instance barPay_storable (c : Dev nD) (b : Bool) : BI.Storable (upEmb : UEmb _ 𝕄) (barPay (F := F) c b) := by unfold barPay; infer_instance
instance cmPay_storable (c : Dev nD) (a k : Fin 4) : BI.Storable (upEmb : UEmb _ 𝕄) (cmPay (F := F) ot wo c a k) := by unfold cmPay; infer_instance

/-- One round: a barrier cell has the duties of the two neighbours, a transfer cell one. -/
def Rd : Rounds.Schedule (GSem nD τ sig) Bool 𝕄 where
  duties g r := if r = 0 ∧ g.1.2 = .tc then (match g.2 with | .reg _ => Finset.univ | .dma s => if 3 ≤ s.val then {true} else ∅) else ∅
  unitless _ := False
  amount g _ _ := match g.2 with | .reg _ => 1 | .dma _ => N
  payload g _ d := match g.2 with | .reg _ => barPay g.1.1 d | .dma s => cmPay ot wo g.1.1 (arrOf s) (chkOf s)
  amount_pos g _ _ _ := by
    cases g.2
    · exact Nat.one_pos
    · exact N_pos

instance Rd_payload_storable (g : GSem nD τ sig) (r : ℕ) (d : Bool) :
    BI.Storable (upEmb : UEmb _ 𝕄) ((Rd (F := F) ot wo).payload g r d) := by
  show BI.Storable upEmb (match g.2 with | .reg _ => barPay g.1.1 d | .dma s => cmPay ot wo g.1.1 (arrOf s) (chkOf s))
  split <;> infer_instance

section Sched

variable (c : Dev nD) (a k : Fin 4)

theorem duties_bar : (Rd (F := F) ot wo).duties (barCell c) 0 = Finset.univ := by dsimp only [Rd]; exact if_pos ⟨rfl, rfl⟩
theorem duties_cm : (Rd (F := F) ot wo).duties (cmCell c a k) 0 = {true} := by
  dsimp only [Rd]; rw [if_pos ⟨rfl, rfl⟩]; exact if_pos (by show 3 ≤ 3 + 4 * a.val + k.val; omega)
theorem duties_later (g : GSem nD τ sig) : ∀ r, 1 ≤ r → (Rd (F := F) ot wo).duties g r = ∅ :=
  fun r hr => by dsimp only [Rd]; exact if_neg fun h => by omega
theorem amount_bar (d : Bool) : (Rd (F := F) ot wo).amount (barCell c) 0 d = 1 := rfl
theorem amount_cm (d : Bool) : (Rd (F := F) ot wo).amount (cmCell c a k) 0 d = N := rfl
theorem expect_bar : (Rd (F := F) ot wo).expect (barCell c) 0 = 2 := by
  unfold Schedule.expect Schedule.amountOf
  rw [duties_bar, Finset.sum_congr rfl fun d _ => amount_bar ot wo c d, Finset.sum_const, Finset.card_univ, Fintype.card_bool, smul_eq_mul]
theorem expect_cm : (Rd (F := F) ot wo).expect (cmCell c a k) 0 = N := by
  unfold Schedule.expect Schedule.amountOf; rw [duties_cm, Finset.sum_singleton, amount_cm]
theorem payload_bar (d : Bool) : (Rd (F := F) ot wo).payload (barCell c) 0 d = barPay c d := rfl
theorem payload_cm (d : Bool) : (Rd (F := F) ot wo).payload (cmCell c a k) 0 d = cmPay ot wo c a k := by
  show cmPay ot wo c (arrOf (cmS a k)) (chkOf (cmS a k)) = _; rw [arrOf_cmS, chkOf_cmS]
theorem rest_bar : bigSep ((Rd (F := F) ot wo).duties (barCell c) 0 \ ∅) (fun d => (Rd (F := F) ot wo).payload (barCell c) 0 d)
    = iprop(barPay c false ∗ barPay c true) := by
  rw [Finset.sdiff_empty, duties_bar, bigSep_univ_eq_bigSepL [false, true] (by decide) (by decide), bigSepL_cons_cons, bigSepL_singleton]; rfl
theorem rest_cm : bigSep ((Rd (F := F) ot wo).duties (cmCell c a k) 0 \ ∅) (fun d => (Rd (F := F) ot wo).payload (cmCell c a k) 0 d)
    = cmPay ot wo c a k := by
  rw [Finset.sdiff_empty, duties_cm, bigSep_singleton, payload_cm]

end Sched

/-! ## What a device owes; the levels -/

/-- The transfers along `b` not yet made, from chunk `n` on. -/
def owing (b : Bool) (c : Dev nD) (n : ℕ) : CellTallies nD τ sig Unit :=
  ∑ k : Fin 4 with n ≤ k.val, tallyAt (cmCell (nb b c) (rcv b) k) () N

theorem owing_step (b : Bool) (c : Dev nD) (k : Fin 4) :
    owing b c k.val = owing b c (k.val + 1) + tallyAt (cmCell (nb b c) (rcv b) k) () N := by
  unfold owing
  have e : (Finset.univ.filter fun j : Fin 4 => k.val ≤ j.val) = insert k (Finset.univ.filter fun j : Fin 4 => k.val + 1 ≤ j.val) := by
    revert k; decide
  rw [e, Finset.sum_insert (by simp), add_comm]

theorem owing_done (b : Bool) (c : Dev nD) : owing b c 4 = 0 := by
  unfold owing
  rw [show (Finset.univ.filter fun j : Fin 4 => 4 ≤ j.val) = ∅ by decide, Finset.sum_empty]

theorem owing_pos {b : Bool} {c : Dev nD} {n : ℕ} {g : GSem nD τ sig} {u : Unit} (h : 0 < owing b c n g u) :
    ∃ k, g = cmCell (nb b c) (rcv b) k := by
  unfold owing at h
  rw [Finset.sum_apply, Finsupp.finset_sum_apply] at h
  obtain ⟨k, -, hk⟩ := Finset.exists_ne_zero_of_sum_ne_zero h.ne'
  refine ⟨k, ?_⟩
  rw [tallyAt_apply] at hk
  by_contra hg
  exact hk (if_neg fun hh => hg hh.1)

/-- Everything, before the first signal. -/
def O₀ (c : Dev nD) : CellTallies nD τ sig Unit :=
  owing false c 0 + owing true c 0 + tallyAt (barCell (nbY c)) () 1 + tallyAt (barCell (nbX c)) () 1

def L (g : GSem nD τ sig) : Finset Unit := if g.1.2 = .tc then {()} else ∅
/-- The barrier at 1, what comes along x at 2, along y at 3, the rest at 0. -/
def lv (g : GSem nD τ sig) (_ : Unit) : ℕ :=
  match g.2 with
  | .reg _ => 1
  | .dma s => if s.val < 3 then 0 else if arrOf s = 1 then 2 else if arrOf s = 3 then 3 else 0

theorem L_of_ne (g : GSem nD τ sig) (h : g.1.2 ≠ .tc) : L g = ∅ := if_neg h
theorem L_tc (c : Dev nD) (sm : SemLoc sig) : L ((c : Thread nD τ), sm) = {()} := if_pos rfl
theorem mem_L (c : Dev nD) (sm : SemLoc sig) (u : Unit) : u ∈ L ((c : Thread nD τ), sm) := by rw [L_tc]; exact Finset.mem_singleton_self _
theorem lv_cm (c : Dev nD) (a k : Fin 4) : lv (cmCell c a k) () = if a = 1 then 2 else if a = 3 then 3 else 0 := by
  dsimp only [lv]; rw [arrOf_cmS, if_neg (by show ¬ (3 + 4 * a.val + k.val < 3); omega)]
theorem lv_bar (c : Dev nD) : lv (barCell c) () = 1 := rfl

/-- A wait at level `n` while everything owed lies higher. -/
theorem mayWait (c : Dev nD) (sm : SemLoc sig) (n : ℕ) (O : CellTallies nD τ sig Unit) (hn : lv ((c : Thread nD τ), sm) () = n)
    (h : ∀ g u, 0 < O g u → u ∈ L g ∧ n < lv g u) : (levAts L lv : sProp 𝕄) ⊢ MayWait (c : Thread nD τ) sm () O :=
  MayOwe.of_cut (L := L) (lev := lv) n (fun p hp => by rw [Finset.mem_singleton.mp hp]; exact mem_L _ _ _)
    (fun g u hg => (h g u hg).1)
    (fun p hp => by rw [Finset.mem_singleton.mp hp]; exact hn.le)
    (fun g u hg => (h g u hg).2)

/-- The level of what comes along `b`. -/
def lvOf : Bool → ℕ
  | true => 2
  | false => 3

theorem owing_lv {b : Bool} {c : Dev nD} {n : ℕ} {g : GSem nD τ sig} {u : Unit} (h : 0 < owing b c n g u) :
    u ∈ L g ∧ lvOf b ≤ lv g u := by
  obtain ⟨k, rfl⟩ := owing_pos h
  cases u
  refine ⟨mem_L _ _ _, ?_⟩
  rw [lv_cm]
  cases b <;> decide

theorem add_pos_cases {O O' : CellTallies nD τ sig Unit} {g : GSem nD τ sig} {u : Unit} (h : 0 < (O + O') g u) : 0 < O g u ∨ 0 < O' g u := by
  rw [Pi.add_apply, Finsupp.add_apply] at h
  exact Nat.add_pos_iff_pos_or_pos.mp h

theorem O₀_lv {c : Dev nD} {g : GSem nD τ sig} {u : Unit} (h : 0 < O₀ c g u) : u ∈ L g ∧ 0 < lv g u := by
  have bar (d : Dev nD) (h : 0 < (tallyAt (barCell d) () 1 : CellTallies nD τ sig Unit) g u) : u ∈ L g ∧ 0 < lv g u := by
    rw [tallyAt_apply] at h
    split at h
    · next hg => rw [hg.1]; exact ⟨mem_L _ _ _, Nat.one_pos⟩
    · exact absurd h (Nat.lt_irrefl 0)
  rcases add_pos_cases h with h | h
  · rcases add_pos_cases h with h | h
    · rcases add_pos_cases h with h | h
      · exact ⟨(owing_lv h).1, lt_of_lt_of_le (by decide) (owing_lv h).2⟩
      · exact ⟨(owing_lv h).1, lt_of_lt_of_le (by decide) (owing_lv h).2⟩
    · exact bar _ h
  · exact bar _ h

theorem mayWait_bar (c : Dev nD) : (levAts L lv : sProp 𝕄) ⊢ MayWait (c : Thread nD τ) (.reg barS) () (owing false c 0 + owing true c 0) :=
  mayWait c _ 1 _ rfl fun g u h => by
    rcases add_pos_cases h with h | h
    · exact ⟨(owing_lv h).1, lt_of_lt_of_le (by decide) (owing_lv h).2⟩
    · exact ⟨(owing_lv h).1, lt_of_lt_of_le (by decide) (owing_lv h).2⟩

theorem mayWait_x (c : Dev nD) (k : Fin 4) (n : ℕ) : (levAts L lv : sProp 𝕄) ⊢ MayWait (c : Thread nD τ) (.dma (cmS 1 k)) () (owing false c n) :=
  mayWait c _ 2 _ (by rw [lv_cm]; rfl) fun g u h => ⟨(owing_lv h).1, lt_of_lt_of_le (by decide) (owing_lv h).2⟩

/-! ## The cells' names and records -/

def barEmb : Dev nD ↪ GSem nD τ sig := ⟨fun c => barCell c, fun _ _ h => congrArg (fun g : GSem nD τ sig => g.1.1) h⟩
def cmEmb : Dev nD × Fin 4 × Fin 4 ↪ GSem nD τ sig :=
  ⟨fun p => cmCell p.1 p.2.1 p.2.2, fun p q h => by
    have h1 : p.1 = q.1 := congrArg (fun g : GSem nD τ sig => g.1.1) h
    have h2 : SemLoc.dma (cmS p.2.1 p.2.2) = (SemLoc.dma (cmS q.2.1 q.2.2) : SemLoc sig) := congrArg Prod.snd h
    have h3 := cmS_inj (SemLoc.dma.inj h2)
    exact Prod.ext h1 (Prod.ext h3.1 h3.2)⟩

/-- The barrier cells, and the transfer cells. -/
abbrev barCells : Finset (GSem nD τ sig) := Finset.univ.map barEmb
abbrev cmCells : Finset (GSem nD τ sig) := Finset.univ.map cmEmb

theorem bar_mem (c : Dev nD) : barCell c ∈ (barCells ∪ cmCells : Finset (GSem nD τ sig)) :=
  Finset.mem_union_left _ (Finset.mem_map_of_mem barEmb (Finset.mem_univ c))
theorem cm_mem (c : Dev nD) (a k : Fin 4) : cmCell c a k ∈ (barCells ∪ cmCells : Finset (GSem nD τ sig)) :=
  Finset.mem_union_right _ (Finset.mem_map_of_mem cmEmb (Finset.mem_univ (c, a, k)))

/-- All cells' invariants, at the names `K`. -/
def invs (K : GSem nD τ sig → ℕ) : sProp 𝕄 := bigSep (barCells ∪ cmCells) fun g => cellInv ER (Rd ot wo) (K g) g

instance invs_persistent (K : GSem nD τ sig → ℕ) : BI.Persistent (invs (F := F) ot wo K) := by unfold invs; infer_instance

theorem inv_bar (K : GSem nD τ sig → ℕ) (c : Dev nD) : (invs ot wo K : sProp 𝕄) ⊢ cellInv ER (Rd ot wo) (K (barCell c)) (barCell c) := by
  unfold invs; exact bigSep_elim (bar_mem c)
theorem inv_cm (K : GSem nD τ sig → ℕ) (c : Dev nD) (a k : Fin 4) :
    (invs ot wo K : sProp 𝕄) ⊢ cellInv ER (Rd ot wo) (K (cmCell c a k)) (cmCell c a k) := by
  unfold invs; exact bigSep_elim (cm_mem c a k)

/-- What a device owes, the waits recorded so far left open. -/
def ow (c : Dev nD) (O : CellTallies nD τ sig Unit) : sProp 𝕄 := iprop(∃ W, owes (c : Thread nD τ) O W)

end Cert.KernelIdeal.Proto

end
-- ==== Proof.Steps.lean ====
/- Each step of the plan as a rule: what it takes and what it gives, on any device and for any chunk. -/
module

public import proofs.«01_k».proof.Proof.Proto
public import Idealize.ShloMosaic.Lib.WritesUnit
public import Idealize.ShloMosaic.Lib.Exec.Geometry
public import Idealize.ShloMosaic.Lib.ViewIndex

@[expose] public section

set_option maxRecDepth 16384

noncomputable section

namespace Cert.KernelIdeal.Steps

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.KernelIdeal.Plan Cert.KernelIdeal.Proto

variable {F : FTy → Type} [FloatOps F]

local notation "𝕄" => MT nD τ sig Unit (Elt F) ℕ UU ℕ

/-! ## Where the boxes lie -/

/-- The half of the result's rows that a device sums (`true`) or takes from its y-neighbour. -/
def halfOf (c : Dev nD) (h : Bool) : ℕ := match h with | true => c.val % 2 | false => 1 - c.val % 2

theorem rowOff_eq : ∀ (c : Dev nD) (h : Bool) (k : Fin 4), rowOff c h k = ![k.val / 2, 256 * halfOf c h + 128 * (k.val % 2), 0] := by
  decide +kernel

theorem rows_disjoint (c : Dev nD) {h h' : Bool} {k k' : Fin 4} (hne : ¬ (h' = h ∧ k' = k)) : Disjoint (rowR c h' k').set (rowR c h k).set := by
  rw [Finset.disjoint_left]
  intro i hi hi'
  rw [Rect.mem_set_unit] at hi hi'
  have a0 := hi 0; have a1 := hi 1; have b0 := hi' 0; have b1 := hi' 1
  simp only [rowOff_eq, Matrix.cons_val_zero, Matrix.cons_val_one] at a0 a1 b0 b1
  have hk : k.val < 4 := k.isLt
  have hk' : k'.val < 4 := k'.isLt
  have hh : h' = h := by
    cases h <;> cases h' <;> first | rfl | (exfalso; simp only [halfOf] at a1 b1; omega)
  subst hh
  exact hne ⟨rfl, Fin.ext (by omega)⟩

/-! ## What is read after a write -/

variable (ot : Dev nD → Vec F S2x1024x1024 .bf16) (wo : Dev nD → Vec F S1024x2048 .bf16)

omit [FloatOps F] in
theorem read_row_store (c : Dev nD) (h h' : Bool) (k k' : Fin 4) (f : outM.view.ty.Contents (Elt F)) (w : Vec F S1x128x2048 .f32) :
    outM.view.readAt (Elt F) (rowR c h' k').toLoadRect ((outM.access (rowR c h k)).write (Elt F) f w Finset.univ)
      = if h' = h ∧ k' = k then w else outM.view.readAt (Elt F) (rowR c h' k').toLoadRect f := by
  by_cases e : h' = h ∧ k' = k
  · rw [if_pos e]
    obtain ⟨rfl, rfl⟩ := e
    exact View.read_write_univ (v := outM.view.slice (rowR c h' k')) f w
  · rw [if_neg e]
    exact View.read_slice_write_slice_of_disjoint _ _ _ _ _ (by rw [View.setOn_univ]; exact View.disjoint_slice (rows_disjoint c e))

omit [FloatOps F] in
theorem chunk_set (M : Memref sig .tc .vmem S4x128x2048 .bf16) (k : Fin 4) : (chunkM M k).view.set = (M.access (chunkR k)).set :=
  View.set_reshape (v := M.view.slice (chunkR k)) _

omit [FloatOps F] in
/-- A chunk stored reads back; -/
theorem read_chunk_store (M : Memref sig .tc .vmem S4x128x2048 .bf16) (k : Fin 4) (f : M.view.ty.Contents (Elt F)) (w : Vec F S1x128x2048 .bf16) :
    M.view.readAt (Elt F) (chunkR k).toLoadRect ((M.access (chunkR k)).write (Elt F) f w Finset.univ) = w :=
  View.read_write_univ (v := M.view.slice (chunkR k)) f w

omit [FloatOps F] in
/-- a chunk transferred reads as its source's. -/
theorem read_chunk_put (A B : Memref sig .tc .vmem S4x128x2048 .bf16) (k : Fin 4) (fs : A.view.ty.Contents (Elt F)) (fd : B.view.ty.Contents (Elt F)) :
    B.view.readAt (Elt F) (chunkR k).toLoadRect ((chunkM B k).view.write (Elt F) fd ((chunkM A k).view.read (Elt F) fs) Finset.univ)
      = A.view.readAt (Elt F) (chunkR k).toLoadRect fs := by
  funext x
  obtain ⟨y, rfl⟩ := (Shape.reshapeEquiv (squeezes_S1x128x2048_S128x2048).numel_eq).surjective x
  exact View.read_write_reshape (v := B.view.slice (chunkR k)) (squeezes_S1x128x2048_S128x2048).numel_eq fd ((chunkM A k).view.read (Elt F) fs) y

/-! ## The steps -/

/-- Device `c` runs `p`, then `Kt`. -/
abbrev run (c : Dev nD) (p : P F PUnit) (Kt : PUnit → sProp 𝕄) : sProp 𝕄 :=
  wp frame (wpE (defs₀ (F := F)) 𝒱₀ (c : Thread nD τ) none) Set.univ p Kt

/-- Buffer `M` whole on device `c` at contents `f`. -/
abbrev whole {s : Shape} {e : EltTy} (M : Memref sig .tc .vmem s e) (c : Dev nD) (f : M.view.ty.Contents (Elt F)) : sProp 𝕄 :=
  M.view.loc (c : Thread nD τ) ↦{fullShare} f

/-- The scratch copy of the weights, holding what the kernel writes there. -/
def wcAt (c : Dev nD) : sProp 𝕄 := iprop(∃ f, whole wcM c f ∗ ⌜wcM.view.readAt (Elt F) allR.toLoadRect f = wcV wo c⌝)

/-- The result's buffer, its eight groups of rows holding `st`. -/
def outAt (c : Dev nD) (st : Bool → Fin 4 → Vec F S1x128x2048 .f32) : sProp 𝕄 :=
  iprop(∃ f, whole outM c f ∗ ⌜∀ h k, outM.view.readAt (Elt F) (rowR c h k).toLoadRect f = st h k⌝)

/-- `st` with the rows `(h, k)` at `v`. -/
def upd (st : Bool → Fin 4 → Vec F S1x128x2048 .f32) (h : Bool) (k : Fin 4) (v : Vec F S1x128x2048 .f32) :
    Bool → Fin 4 → Vec F S1x128x2048 .f32 := fun h' k' => if h' = h ∧ k' = k then v else st h' k'

omit [FloatOps F] in
theorem credit_eq (B : Memref sig .tc .vmem S4x128x2048 .bf16) (k : Fin 4) : (chunkM B k).view.dmaCredit = N := rfl

theorem wait_eq (c : Dev nD) (s : DmaSem sig) (A B : Memref sig .tc .vmem S4x128x2048 .bf16) (k : Fin 4)
    (h1 : (chunkM A k).view.WordExact) (h2 : (chunkM B k).view.WordExact) (K : PUnit → sProp 𝕄) :
    wpE (defs₀ (F := F)) 𝒱₀ (c : Thread nD τ) none Set.univ (.waitDma2 s (chunkM A k) (chunkM B k) h1 h2) K
      = waitSpec (c : Thread nD τ) Set.univ (.dma s) N K := by
  rw [← credit_eq B k]; rfl

/-- A cell whose one round is over gives its counter back, at zero. -/
theorem close_cell (κ : ℕ) (g : GSem nD τ sig) :
    iprop(cellInv ER (Rd ot wo) κ g ∗ atPos ER g (0 + 1) ∅ 0) ⊢ (|={Set.univ}=> semVal g 0 : sProp 𝕄) :=
  Rounds.cell_close ER (Rd ot wo) (Set.mem_univ κ) id (duties_later ot wo g)

/-- A wait for a transfer: the cell's chunk comes, and the cell is closed. -/
theorem run_await (K : GSem nD τ sig → ℕ) (c : Dev nD) (a k : Fin 4) (A B : Memref sig .tc .vmem S4x128x2048 .bf16) (hA : A.IsWhole) (hB : B.IsWhole)
    (O : CellTallies nD τ sig Unit) (Kt : PUnit → sProp 𝕄) :
    iprop(invs ot wo K ∗ cred (tallyAt (cmCell c a k) () N) ∗ ow c O ∗ MayWait (c : Thread nD τ) (.dma (cmS a k)) () O ∗ atPos ER (cmCell c a k) 0 ∅ 0
        ∗ ((ow c O ∗ semVal (cmCell c a k) 0 ∗ chunkAt (bufOf a) c k (cv ot wo c a k)) -∗ Kt ⟨⟩))
      ⊢ run c (await (cmS a k) A B hA hB k) Kt := by
  unfold run await ow
  simp only [Prog.lift]
  iintro ⟨#HI, Hc, ⟨%W, HO⟩, Hm, Hat, Hk⟩
  iapply (Rounds.wp_wait_rest_token 𝒱₀ ER (Rd ot wo) (c : Thread nD τ) none (κ := K (cmCell c a k))
      (fun Q => wait_eq c (cmS a k) A B k _ _ Q) (Set.mem_univ _) () (O := O) (W := W) (R := 0) (m := 0) (T := ∅)
      ((Nat.zero_add _).trans (expect_cm ot wo c a k).symm)) $$ [Hc HO Hm Hat]
  · isplitr; · iapply (inv_cm ot wo K c a k); iexact HI
    isplitl [Hc]; · iexact Hc
    isplitl [HO]; · iexact HO
    isplitl [Hm]; · iexact Hm
    iexact Hat
  iintro ⟨HO, Hat, -, Hp⟩
  ihave Hp' := (Entails.of_eq (rest_cm ot wo c a k)) $$ Hp
  unfold cmPay
  rw [wp_ret]
  imod (close_cell ot wo (K (cmCell c a k)) (cmCell c a k)) $$ [Hat] with Hat
  · isplitr; · iapply (inv_cm ot wo K c a k); iexact HI
    iexact Hat
  imodintro
  iapply Hk
  isplitl [HO]; · iexists _; iexact HO
  isplitl [Hat]; · iexact Hat
  iexact Hp'

/-- A transfer of chunk `k` of buffer `a` to buffer `b` of device `p`. -/
theorem run_put (K : GSem nD τ sig → ℕ) (c p : Dev nD) (a b k : Fin 4) (hv : cv ot wo p b k = cv ot wo c a k)
    {hsc : (chunkM (bufOf b) k).view.ref.isScScratch = false} {h1 : (chunkM (bufOf a) k).view.WordExact} {h2 : (chunkM (bufOf b) k).view.WordExact}
    {h3 : DmaTarget.Typed (nD := nD) (τ := τ) (p := .tc) .vmem (.dma (cmS b k) : SemLoc sig) (.remote (Dev.tc p) (chunkM (bufOf b) k) (.dma (cmS a k)) hsc)}
    (O : CellTallies nD τ sig Unit) (Kt : PUnit → sProp 𝕄) :
    iprop(invs ot wo K ∗ chunkAt (bufOf a) c k (cv ot wo c a k) ∗ chunkAny (bufOf b) p k ∗ ow c (O + tallyAt (cmCell p b k) () N)
        ∗ dutyTok ER (cmCell c a k) 0 true ∗ reached ER (cmCell c a k) 0 ∗ dutyTok ER (cmCell p b k) 0 true ∗ reached ER (cmCell p b k) 0
        ∗ ((cred (tallyAt (cmCell c a k) () N) ∗ ow c O) -∗ Kt ⟨⟩))
      ⊢ run c (Prog.lift (.enqueueDma (chunkM (bufOf a) k) (.remote (Dev.tc p) (chunkM (bufOf b) k) (.dma (cmS a k)) hsc) (.dma (cmS b k)) h1 h2 h3)) Kt := by
  unfold run ow chunkAny chunkAt
  simp only [Prog.lift]
  iintro ⟨#HI, ⟨%fs, Hs, %hs⟩, ⟨%fd, Hd⟩, ⟨%W, HO⟩, Ht, #Hr, Ht', #Hr', Hk⟩
  iapply (Rounds.wp_send_pointsTo 𝒱₀ ER (Rd ot wo) (c : Thread nD τ) none (c' := (p : Thread nD τ)) (src := chunkM (bufOf a) k) (dst := chunkM (bufOf b) k)
      (sS := .dma (cmS a k)) (sem := .dma (cmS b k)) (q := fullShare) (fs := fs) (fd := fd) (κ₁ := K (cmCell c a k)) (κ₂ := K (cmCell p b k))
      (r₁ := 0) (r₂ := 0) (d₁ := true) (d₂ := true)
      (by rw [duties_cm]; exact Finset.mem_singleton_self _) (by rw [duties_cm]; exact Finset.mem_singleton_self _)
      () () N rfl (amount_cm ot wo c a k true) (amount_cm ot wo p b k true) O rfl (W := W)
      (by
        rw [payload_cm]; unfold cmPay chunkAt
        iintro H; iexists fs
        isplitl [H]; · unfold chunkPt; iexact H
        ipureintro; exact hs)
      (by
        rw [payload_cm]; unfold cmPay chunkAt
        iintro H; iexists _
        isplitl [H]; · unfold chunkPt; iexact H
        ipureintro; rw [read_chunk_put]; exact hs.trans hv.symm)) $$ [Hs Hd HO Ht Ht']
  · isplitr; · iapply (inv_cm ot wo K c a k); iexact HI
    isplitr; · iapply (inv_cm ot wo K p b k); iexact HI
    isplitl [Hs]; · unfold chunkPt; iexact Hs
    isplitl [Hd]; · unfold chunkPt; iexact Hd
    isplitl [HO]; · iexact HO
    isplitl [Ht]; · iexact Ht
    isplitr; · iexact Hr
    isplitl [Ht']; · iexact Ht'
    iexact Hr'
  iintro ⟨Hc, HO⟩
  rw [wp_ret]
  imodintro
  iapply Hk
  isplitl [Hc]; · iexact Hc
  iexists _; iexact HO

/-! ## Loads and stores of what is held -/

/-- A load from a buffer of which `S` is held. -/
theorem run_load {s : Shape} {e : EltTy} (M : Memref sig .tc .vmem s e) (r : Rect s) {hl : M.view.LoadsAt r.toLoadRect} (c : Dev nD)
    (S : Finset (Idx (M.view.loc (c : Thread nD τ)))) (hS : (M.access r).set ⊆ S)
    (f : M.view.ty.Contents (Elt F)) (k : (r.shape.Idx → Elt F e) → P F PUnit) (Kt : PUnit → sProp 𝕄) :
    iprop((M.view.loc (c : Thread nD τ) ↦[S]{fullShare} f)
        ∗ ((M.view.loc (c : Thread nD τ) ↦[S]{fullShare} f) -∗ run c (k (M.view.readAt (Elt F) r.toLoadRect f)) Kt))
      ⊢ run c (.op (.load M r.toLoadRect hl) k) Kt := by
  unfold run
  iintro ⟨H, Hk⟩
  iapply (wp_load_rect 𝒱₀ (c : Thread nD τ) none Set.univ hS) $$ [H]
  · iexact H
  iexact Hk

/-- A store to a buffer of which `S` is held. -/
theorem run_store {s : Shape} {e : EltTy} (M : Memref sig .tc .vmem s e) (r : Rect s) (w : r.shape.Idx → Elt F e) {hx : (M.access r).Stores Finset.univ}
    {hm : (Finset.univ : Finset r.shape.Idx) = Finset.univ ∨ ∀ a, r.stride a = 1} (c : Dev nD)
    (S : Finset (Idx (M.view.loc (c : Thread nD τ)))) (hS : (M.access r).set ⊆ S)
    (f : M.view.ty.Contents (Elt F)) (k : PUnit → P F PUnit) (Kt : PUnit → sProp 𝕄) :
    iprop((M.view.loc (c : Thread nD τ) ↦[S]{fullShare} f)
        ∗ ((M.view.loc (c : Thread nD τ) ↦[S]{fullShare} (M.access r).write (Elt F) f w Finset.univ) -∗ run c (k ⟨⟩) Kt))
      ⊢ run c (.op (.store M r w Finset.univ hx hm) k) Kt := by
  unfold run
  iintro ⟨H, Hk⟩
  have hS' : (M.access r).setOn Finset.univ ⊆ S := by rw [View.setOn_univ]; exact hS
  iapply (wp_store 𝒱₀ (c : Thread nD τ) none Set.univ hS') $$ [H]
  · iexact H
  iexact Hk

theorem run_bind (c : Dev nD) (p : P F PUnit) (q : PUnit → P F PUnit) (Kt : PUnit → sProp 𝕄) :
    run c (p >>= q) Kt = run c p fun a => run c (q a) Kt := wp_bind _ _ _ _ _ _

/-! ## The transfers and waits with what they need -/

/-- The send array along x, and along y. -/
def snd : Bool → Fin 4
  | true => 0
  | false => 2

/-- What chunk `k`'s transfer along `b` needs besides its source. -/
def putPre (b : Bool) (c : Dev nD) (k : Fin 4) : sProp 𝕄 :=
  iprop(chunkAny (bufOf (rcv b)) (nb b c) k
    ∗ dutyTok ER (cmCell c (snd b) k) 0 true ∗ reached ER (cmCell c (snd b) k) 0
    ∗ dutyTok ER (cmCell (nb b c) (rcv b) k) 0 true ∗ reached ER (cmCell (nb b c) (rcv b) k) 0)

theorem cv_nb (b : Bool) (c : Dev nD) (k : Fin 4) : cv ot wo (nb b c) (rcv b) k = cv ot wo c (snd b) k := by
  cases b
  · show yV ot wo (nbY (nbY c)) k = yV ot wo c k; rw [nbY_nbY]
  · show xV ot wo (nbX (nbX c)) k = xV ot wo c k; rw [nbX_nbX]

theorem run_send (K : GSem nD τ sig → ℕ) (b : Bool) (c : Dev nD) (k : Fin 4) (p : Dev nD) (hp : p = nb b c)
    {hsc : (chunkM (bufOf (rcv b)) k).view.ref.isScScratch = false} {h1 : (chunkM (bufOf (snd b)) k).view.WordExact} {h2 : (chunkM (bufOf (rcv b)) k).view.WordExact}
    {h3 : DmaTarget.Typed (nD := nD) (τ := τ) (p := .tc) .vmem (.dma (cmS (rcv b) k) : SemLoc sig) (.remote (Dev.tc p) (chunkM (bufOf (rcv b)) k) (.dma (cmS (snd b) k)) hsc)}
    (O : CellTallies nD τ sig Unit) (Kt : PUnit → sProp 𝕄) :
    iprop(invs ot wo K ∗ chunkAt (bufOf (snd b)) c k (cv ot wo c (snd b) k) ∗ putPre b c k ∗ ow c (O + owing b c k.val)
        ∗ ((cred (tallyAt (cmCell c (snd b) k) () N) ∗ ow c (O + owing b c (k.val + 1))) -∗ Kt ⟨⟩))
      ⊢ run c (Prog.lift (.enqueueDma (chunkM (bufOf (snd b)) k) (.remote (Dev.tc p) (chunkM (bufOf (rcv b)) k) (.dma (cmS (snd b) k)) hsc) (.dma (cmS (rcv b) k)) h1 h2 h3)) Kt := by
  subst hp
  unfold putPre
  rw [owing_step b c k, ← add_assoc]
  iintro ⟨#HI, Hs, ⟨Hd, Ht, Hr, Ht', Hr'⟩, HO, Hk⟩
  iapply (run_put ot wo K c (nb b c) (snd b) (rcv b) k (cv_nb ot wo b c k) (O + owing b c (k.val + 1)) Kt)
  isplitr; · iexact HI
  isplitl [Hs]; · iexact Hs
  isplitl [Hd]; · iexact Hd
  isplitl [HO]; · iexact HO
  isplitl [Ht]; · iexact Ht
  isplitl [Hr]; · iexact Hr
  isplitl [Ht']; · iexact Ht'
  isplitl [Hr']; · iexact Hr'
  iexact Hk

theorem run_putX (K : GSem nD τ sig → ℕ) (c : Dev nD) (k : Fin 4) (O : CellTallies nD τ sig Unit) (Kt : PUnit → sProp 𝕄) :
    iprop(invs ot wo K ∗ chunkAt xsM c k (xV ot wo c k) ∗ putPre true c k ∗ ow c (O + owing true c k.val)
        ∗ ((cred (tallyAt (cmCell c 0 k) () N) ∗ ow c (O + owing true c (k.val + 1))) -∗ Kt ⟨⟩))
      ⊢ run c (putX c k) Kt := by
  unfold putX
  simp only [sem0, sem1]
  have h {hsc} {h1} {h2} {h3} := run_send ot wo K true c k (devX c k) (devX_eq c k) (hsc := hsc) (h1 := h1) (h2 := h2) (h3 := h3) O Kt
  dsimp only [snd, rcv, bufOf, nb, cv] at h
  exact h

theorem run_putY (K : GSem nD τ sig → ℕ) (c : Dev nD) (k : Fin 4) (O : CellTallies nD τ sig Unit) (Kt : PUnit → sProp 𝕄) :
    iprop(invs ot wo K ∗ chunkAt ysM c k (yV ot wo c k) ∗ putPre false c k ∗ ow c (O + owing false c k.val)
        ∗ ((cred (tallyAt (cmCell c 2 k) () N) ∗ ow c (O + owing false c (k.val + 1))) -∗ Kt ⟨⟩))
      ⊢ run c (putY c k) Kt := by
  unfold putY
  simp only [sem2, sem3]
  have h {hsc} {h1} {h2} {h3} := run_send ot wo K false c k (devY c k) (devY_eq c k) (hsc := hsc) (h1 := h1) (h2 := h2) (h3 := h3) O Kt
  dsimp only [snd, rcv, bufOf, nb, cv] at h
  exact h

/-! ## The steps of the plan -/

omit [FloatOps F] in
theorem chunk_sub (M : Memref sig .tc .vmem S4x128x2048 .bf16) (k : Fin 4) : (M.access (chunkR k)).set ⊆ (chunkM M k).view.set := (chunk_set M k).ge

theorem run_sendStep (K : GSem nD τ sig → ℕ) (c : Dev nD) (k : Fin 4) (hk : k ≠ 0) (O : CellTallies nD τ sig Unit) (Kt : PUnit → sProp 𝕄) :
    iprop(invs ot wo K ∗ whole otM c (ot c) ∗ wcAt wo c ∗ chunkAny xsM c k ∗ putPre true c k ∗ ow c (O + owing true c k.val)
        ∗ ((whole otM c (ot c) ∗ wcAt wo c ∗ cred (tallyAt (cmCell c 0 k) () N) ∗ ow c (O + owing true c (k.val + 1))) -∗ Kt ⟨⟩))
      ⊢ run c (sendStep c k) Kt := by
  unfold sendStep wcAt chunkAny chunkPt
  simp only [Prog.lift, Prog.bind_op, Prog.bind_ret]
  iintro ⟨#HI, Hot, ⟨%fw, Hw, %hw⟩, ⟨%fx, Hx⟩, Hp, HO, Hk⟩
  iapply (run_load otM (nbR c k) c Finset.univ (Finset.subset_univ _) (ot c)) $$ [-]
  isplitl [Hot]; · iexact Hot
  iintro Hot
  iapply (run_load wcM allR c Finset.univ (Finset.subset_univ _) fw) $$ [-]
  isplitl [Hw]; · iexact Hw
  iintro Hw
  iapply (run_load xsM (chunkR k) c (chunkM xsM k).view.set (chunk_sub xsM k) fx) $$ [-]
  isplitl [Hx]; · iexact Hx
  iintro Hx
  iapply (run_store xsM (chunkR k) _ c (chunkM xsM k).view.set (chunk_sub xsM k) fx) $$ [-]
  isplitl [Hx]; · iexact Hx
  iintro Hx
  iapply (run_putX ot wo K c k O Kt)
  isplitr; · iexact HI
  isplitl [Hx]
  · unfold chunkAt chunkPt
    iexists _
    isplitl [Hx]; · iexact Hx
    ipureintro
    rw [read_chunk_store, hw, xV, if_neg hk]; rfl
  isplitl [Hp]; · iexact Hp
  isplitl [HO]; · iexact HO
  iintro ⟨Hc, HO⟩
  iapply Hk
  isplitl [Hot]; · iexact Hot
  isplitl [Hw]
  · iexists fw
    isplitl [Hw]; · iexact Hw
    ipureintro; exact hw
  isplitl [Hc]; · iexact Hc
  iexact HO

theorem run_ownStep (c : Dev nD) (k : Fin 4) (st : Bool → Fin 4 → Vec F S1x128x2048 .f32) (Kt : PUnit → sProp 𝕄) :
    iprop(whole otM c (ot c) ∗ wcAt wo c ∗ outAt c st
        ∗ ((whole otM c (ot c) ∗ wcAt wo c ∗ outAt c (upd st true k (ownV ot wo c k))) -∗ Kt ⟨⟩))
      ⊢ run c (ownStep c k) Kt := by
  unfold ownStep wcAt outAt
  simp only [Prog.lift, Prog.bind_op, Prog.bind_ret]
  iintro ⟨Hot, ⟨%fw, Hw, %hw⟩, ⟨%fo, Ho, %ho⟩, Hk⟩
  iapply (run_load otM (ownR c k) c Finset.univ (Finset.subset_univ _) (ot c)) $$ [-]
  isplitl [Hot]; · iexact Hot
  iintro Hot
  iapply (run_load wcM allR c Finset.univ (Finset.subset_univ _) fw) $$ [-]
  isplitl [Hw]; · iexact Hw
  iintro Hw
  iapply (run_load outM (rowR c true k) c Finset.univ (Finset.subset_univ _) fo) $$ [-]
  isplitl [Ho]; · iexact Ho
  iintro Ho
  iapply (run_store outM (rowR c true k) _ c Finset.univ (Finset.subset_univ _) fo) $$ [-]
  isplitl [Ho]; · iexact Ho
  iintro Ho
  unfold run
  rw [wp_ret]
  imodintro
  iapply Hk
  isplitl [Hot]; · iexact Hot
  isplitl [Hw]
  · iexists fw
    isplitl [Hw]; · iexact Hw
    ipureintro; exact hw
  iexists _
  isplitl [Ho]; · iexact Ho
  ipureintro
  intro h' k'
  rw [read_row_store, ho, hw]; rfl

theorem run_sumStep (K : GSem nD τ sig → ℕ) (c : Dev nD) (k : Fin 4) (st : Bool → Fin 4 → Vec F S1x128x2048 .f32) (hst : st true k = ownV ot wo c k)
    (Kt : PUnit → sProp 𝕄) :
    iprop(invs ot wo K ∗ levAts L lv ∗ outAt c st ∗ chunkAny ysM c k ∗ putPre false c k
        ∗ cred (tallyAt (cmCell c 1 k) () N) ∗ atPos ER (cmCell c 1 k) 0 ∅ 0 ∗ ow c (owing false c k.val)
        ∗ ((outAt c (upd st true k (sumV ot wo c k)) ∗ chunkAny xrM c k ∗ semVal (cmCell c 1 k) 0
            ∗ cred (tallyAt (cmCell c 2 k) () N) ∗ ow c (owing false c (k.val + 1))) -∗ Kt ⟨⟩))
      ⊢ run c (sumStep c k) Kt := by
  unfold sumStep
  rw [run_bind, sem1]
  iintro ⟨#HI, #HL, Ho, Hy, Hp, Hcr, Hat, HO, Hk⟩
  iapply (run_await ot wo K c 1 k xsM xrM xsW xrW (owing false c k.val)) $$ [-]
  isplitr; · iexact HI
  isplitl [Hcr]; · iexact Hcr
  isplitl [HO]; · iexact HO
  isplitr; · iapply (mayWait_x c k k.val); iexact HL
  isplitl [Hat]; · iexact Hat
  iintro ⟨HO, Hat, Hr⟩
  simp only [Prog.lift, Prog.bind_op, Prog.bind_ret]
  unfold outAt chunkAny chunkAt chunkPt
  icases Ho with ⟨%fo, Ho, %ho⟩
  icases Hr with ⟨%fr, Hr, %hr⟩
  icases Hy with ⟨%fy, Hy⟩
  iapply (run_load outM (rowR c true k) c Finset.univ (Finset.subset_univ _) fo) $$ [-]
  isplitl [Ho]; · iexact Ho
  iintro Ho
  iapply (run_load xrM (chunkR k) c (chunkM xrM k).view.set (chunk_sub xrM k) fr) $$ [-]
  isplitl [Hr]; · iexact Hr
  iintro Hr
  iapply (run_load ysM (chunkR k) c (chunkM ysM k).view.set (chunk_sub ysM k) fy) $$ [-]
  isplitl [Hy]; · iexact Hy
  iintro Hy
  iapply (run_store ysM (chunkR k) _ c (chunkM ysM k).view.set (chunk_sub ysM k) fy) $$ [-]
  isplitl [Hy]; · iexact Hy
  iintro Hy
  have hr' : xrM.view.readAt (Elt F) (chunkR k).toLoadRect fr = xV ot wo (nbX c) k := hr
  rw [run_bind, ← zero_add (owing false c k.val)]
  iapply (run_putY ot wo K c k 0) $$ [-]
  isplitr; · iexact HI
  isplitl [Hy]
  · unfold chunkAt chunkPt
    iexists _
    isplitl [Hy]; · iexact Hy
    ipureintro
    rw [read_chunk_store, ho, hst, hr']; rfl
  isplitl [Hp]; · iexact Hp
  isplitl [HO]; · iexact HO
  iintro ⟨Hc, HO⟩
  rw [zero_add]
  iapply (run_load outM (rowR c true k) c Finset.univ (Finset.subset_univ _) fo) $$ [-]
  isplitl [Ho]; · iexact Ho
  iintro Ho
  iapply (run_store outM (rowR c true k) _ c Finset.univ (Finset.subset_univ _) fo) $$ [-]
  isplitl [Ho]; · iexact Ho
  iintro Ho
  unfold run
  rw [wp_ret]
  imodintro
  iapply Hk
  isplitl [Ho]
  · iexists _
    isplitl [Ho]; · iexact Ho
    ipureintro
    intro h' k'
    rw [read_row_store, ho, ho, hst, hr']; rfl
  isplitl [Hr]; · iexists _; iexact Hr
  isplitl [Hat]; · iexact Hat
  isplitl [Hc]; · iexact Hc
  iexact HO

theorem run_takeStep (K : GSem nD τ sig → ℕ) (c : Dev nD) (k : Fin 4) (st : Bool → Fin 4 → Vec F S1x128x2048 .f32) (Kt : PUnit → sProp 𝕄) :
    iprop(invs ot wo K ∗ outAt c st ∗ cred (tallyAt (cmCell c 3 k) () N) ∗ atPos ER (cmCell c 3 k) 0 ∅ 0 ∗ ow c 0
        ∗ ((outAt c (upd st false k (takenV ot wo c k)) ∗ chunkAny yrM c k ∗ semVal (cmCell c 3 k) 0 ∗ ow c 0) -∗ Kt ⟨⟩))
      ⊢ run c (takeStep c k) Kt := by
  unfold takeStep
  rw [run_bind, sem3]
  iintro ⟨#HI, Ho, Hcr, Hat, HO, Hk⟩
  iapply (run_await ot wo K c 3 k ysM yrM ysW yrW 0) $$ [-]
  isplitr; · iexact HI
  isplitl [Hcr]; · iexact Hcr
  isplitl [HO]; · iexact HO
  isplitr; · rw [MayWait_zero]; iempintro
  isplitl [Hat]; · iexact Hat
  iintro ⟨HO, Hat, Hr⟩
  simp only [Prog.lift, Prog.bind_op, Prog.bind_ret]
  unfold outAt chunkAny chunkAt chunkPt
  icases Ho with ⟨%fo, Ho, %ho⟩
  icases Hr with ⟨%fr, Hr, %hr⟩
  have hr' : yrM.view.readAt (Elt F) (chunkR k).toLoadRect fr = yV ot wo (nbY c) k := hr
  iapply (run_load yrM (chunkR k) c (chunkM yrM k).view.set (chunk_sub yrM k) fr) $$ [-]
  isplitl [Hr]; · iexact Hr
  iintro Hr
  iapply (run_load outM (rowR c false k) c Finset.univ (Finset.subset_univ _) fo) $$ [-]
  isplitl [Ho]; · iexact Ho
  iintro Ho
  iapply (run_store outM (rowR c false k) _ c Finset.univ (Finset.subset_univ _) fo) $$ [-]
  isplitl [Ho]; · iexact Ho
  iintro Ho
  unfold run
  rw [wp_ret]
  imodintro
  iapply Hk
  isplitl [Ho]
  · iexists _
    isplitl [Ho]; · iexact Ho
    ipureintro
    intro h' k'
    rw [read_row_store, ho, hr']; rfl
  isplitl [Hr]; · iexists _; iexact Hr
  isplitl [Hat]; · iexact Hat
  iexact HO

theorem run_drainStep (K : GSem nD τ sig → ℕ) (c : Dev nD) (k : Fin 4) (Kt : PUnit → sProp 𝕄) :
    iprop(invs ot wo K ∗ cred (tallyAt (cmCell c 0 k) () N) ∗ atPos ER (cmCell c 0 k) 0 ∅ 0 ∗ cred (tallyAt (cmCell c 2 k) () N) ∗ atPos ER (cmCell c 2 k) 0 ∅ 0 ∗ ow c 0
        ∗ ((chunkAny xsM c k ∗ semVal (cmCell c 0 k) 0 ∗ chunkAny ysM c k ∗ semVal (cmCell c 2 k) 0 ∗ ow c 0) -∗ Kt ⟨⟩))
      ⊢ run c (drainStep k) Kt := by
  unfold drainStep
  rw [run_bind, sem0, sem2]
  iintro ⟨#HI, Hcr, Hat, Hcr', Hat', HO, Hk⟩
  iapply (run_await ot wo K c 0 k xrM xsM xrW xsW 0) $$ [-]
  isplitr; · iexact HI
  isplitl [Hcr]; · iexact Hcr
  isplitl [HO]; · iexact HO
  isplitr; · rw [MayWait_zero]; iempintro
  isplitl [Hat]; · iexact Hat
  iintro ⟨HO, Hat, Hr⟩
  iapply (run_await ot wo K c 2 k yrM ysM yrW ysW 0) $$ [-]
  isplitr; · iexact HI
  isplitl [Hcr']; · iexact Hcr'
  isplitl [HO]; · iexact HO
  isplitr; · rw [MayWait_zero]; iempintro
  isplitl [Hat']; · iexact Hat'
  iintro ⟨HO, Hat', Hr'⟩
  iapply Hk
  isplitl [Hr]; · iapply (chunkAt_any xsM c k _); iexact Hr
  isplitl [Hat]; · iexact Hat
  isplitl [Hr']; · iapply (chunkAt_any ysM c k _); iexact Hr'
  isplitl [Hat']; · iexact Hat'
  iexact HO

/-! ## The barrier and the first product -/

theorem run_meet (K : GSem nD τ sig → ℕ) (c : Dev nD) (Kt : PUnit → sProp 𝕄) :
    iprop(invs ot wo K ∗ levAts L lv ∗ ow c (O₀ c)
        ∗ dutyTok ER (barCell (nbX c)) 0 true ∗ reached ER (barCell (nbX c)) 0 ∗ barPay (nbX c) true
        ∗ dutyTok ER (barCell (nbY c)) 0 false ∗ reached ER (barCell (nbY c)) 0 ∗ barPay (nbY c) false
        ∗ cred (tallyAt (barCell c) () 2) ∗ atPos ER (barCell c) 0 ∅ 0
        ∗ ((ow c (owing false c 0 + owing true c 0) ∗ semVal (barCell c) 0 ∗ barPay c false ∗ barPay c true) -∗ Kt ⟨⟩))
      ⊢ run c (meet c) Kt := by
  unfold run meet ow
  simp only [semSignalWord, semWaitWord, Prog.bind_op, Prog.bind_ret]
  iintro ⟨#HI, #HL, ⟨%W, HO⟩, Ht, #Hr, Hp, Ht', #Hr', Hp', Hc, Hat, Hk⟩
  iapply (Rounds.wp_signal 𝒱₀ ER (Rd ot wo) (c : Thread nD τ) none (dst := (nbX c : Thread nD τ)) (sem := barS) (r := 0) (d := true) (k' := 1) (κ := K (barCell (nbX c)))
      (by rw [duties_bar]; exact Finset.mem_univ _) (amount_bar ot wo (nbX c) true) ()
      (owing false c 0 + owing true c 0 + tallyAt (barCell (nbY c)) () 1) rfl (W := W)) $$ [HO Ht Hp]
  · isplitr; · iapply (inv_bar ot wo K (nbX c)); iexact HI
    isplitl [HO]; · iexact HO
    isplitl [Ht]; · iexact Ht
    isplitl [Hp]; · rw [payload_bar]; iexact Hp
    iexact Hr
  iintro HO
  iapply (Rounds.wp_signal 𝒱₀ ER (Rd ot wo) (c : Thread nD τ) none (dst := (nbY c : Thread nD τ)) (sem := barS) (r := 0) (d := false) (k' := 1) (κ := K (barCell (nbY c)))
      (by rw [duties_bar]; exact Finset.mem_univ _) (amount_bar ot wo (nbY c) false) ()
      (owing false c 0 + owing true c 0) rfl (W := W)) $$ [HO Ht' Hp']
  · isplitr; · iapply (inv_bar ot wo K (nbY c)); iexact HI
    isplitl [HO]; · iexact HO
    isplitl [Ht']; · iexact Ht'
    isplitl [Hp']; · rw [payload_bar]; iexact Hp'
    iexact Hr'
  iintro HO
  iapply (Rounds.wp_wait_rest_token 𝒱₀ ER (Rd ot wo) (c : Thread nD τ) none (κ := K (barCell c)) (k' := 2)
      (wpE_semWait_eq 𝒱₀ (c : Thread nD τ) none Set.univ) (Set.mem_univ _) () (O := owing false c 0 + owing true c 0) (W := W) (R := 0) (m := 0) (T := ∅)
      ((Nat.zero_add _).trans (expect_bar ot wo c).symm)) $$ [Hc HO Hat]
  · isplitr; · iapply (inv_bar ot wo K c); iexact HI
    isplitl [Hc]; · iexact Hc
    isplitl [HO]; · iexact HO
    isplitr; · iapply (mayWait_bar c); iexact HL
    iexact Hat
  iintro ⟨HO, Hat, -, Hp⟩
  ihave Hp' := (Entails.of_eq (rest_bar ot wo c)) $$ Hp
  icases Hp' with ⟨Hpf, Hpt⟩
  rw [wp_ret]
  imod (close_cell ot wo (K (barCell c)) (barCell c)) $$ [Hat] with Hat
  · isplitr; · iapply (inv_bar ot wo K c); iexact HI
    iexact Hat
  imodintro
  iapply Hk
  isplitl [HO]; · iexists _; iexact HO
  isplitl [Hat]; · iexact Hat
  isplitl [Hpf]; · iexact Hpf
  iexact Hpt

omit [FloatOps F] in
theorem first_sub (r : Rect S4x128x2048) (hr : r.set ⊆ (chunkR 0).set) : (xsM.access r).set ⊆ (chunkM xsM 0).view.set := by
  rw [chunk_set]
  exact ((View.set_slice (v := xsM.view) r).trans_le (Finset.map_subset_map.mpr hr)).trans (View.set_slice (v := xsM.view) (chunkR 0)).ge

theorem firstL_sub : firstL.set ⊆ (chunkR 0).set := fun i hi => by
  rw [Rect.mem_set_unit] at hi ⊢
  have h0 := hi 0; have h1 := hi 1; have h2 := hi 2
  intro a
  fin_cases a
  · exact h0
  · exact h1
  · exact ⟨h2.1, lt_of_lt_of_le h2.2 (by decide)⟩

theorem firstR_sub : firstR.set ⊆ (chunkR 0).set := fun i hi => by
  rw [Rect.mem_set_unit] at hi ⊢
  have h0 := hi 0; have h1 := hi 1; have h2 := hi 2
  intro a
  fin_cases a
  · exact h0
  · exact h1
  · exact ⟨Nat.zero_le _, h2.2⟩

/-- The two halves cover the weights, and the first chunk. -/
theorem wc_cover (c : Dev nD) (f : wcM.view.ty.Contents (Elt F)) :
    wcM.view.readAt (Elt F) allR.toLoadRect (wcM.view.writes (Elt F) f (wcWrites wo c)) = wcV wo c := by
  refine View.readAt_writes_of_cover _ _ _ _ fun j => ?_
  have j0 : (j 0).val < 1024 := (j 0).isLt
  have j1 : (j 1).val < 2048 := (j 1).isLt
  by_cases h : (j 1).val < 1024
  · refine ⟨⟨halfL, k0_pay1 (woL wo c)⟩, by simp [wcWrites], ?_⟩
    rw [Rect.mem_set_unit]
    intro a
    rw [LoadRect.idx_apply]
    fin_cases a
    · show 0 ≤ 0 + 1 * (j 0).val ∧ 0 + 1 * (j 0).val < 0 + 1024; omega
    · show 0 ≤ 0 + 1 * (j 1).val ∧ 0 + 1 * (j 1).val < 0 + 1024; omega
  · refine ⟨⟨halfR, k0_pay4 (woR wo c)⟩, by simp [wcWrites], ?_⟩
    rw [Rect.mem_set_unit]
    intro a
    rw [LoadRect.idx_apply]
    fin_cases a
    · show 0 ≤ 0 + 1 * (j 0).val ∧ 0 + 1 * (j 0).val < 0 + 1024; omega
    · show 1024 ≤ 0 + 1 * (j 1).val ∧ 0 + 1 * (j 1).val < 1024 + 1024; omega

theorem first_cover (c : Dev nD) (f : xsM.view.ty.Contents (Elt F)) :
    xsM.view.readAt (Elt F) (chunkR 0).toLoadRect (xsM.view.writes (Elt F) f (firstWrites ot wo c)) = xV ot wo c 0 := by
  rw [xV, if_pos rfl]
  refine View.readAt_writes_of_cover _ _ _ _ fun j => ?_
  have j0 : (j 0).val < 1 := (j 0).isLt
  have j1 : (j 1).val < 128 := (j 1).isLt
  have j2 : (j 2).val < 2048 := (j 2).isLt
  by_cases h : (j 2).val < 1024
  · refine ⟨⟨firstL, k0_pay3 (k0_pay2 (nbAct ot c 0)) (k0_pay1 (woL wo c))⟩, by simp [firstWrites], ?_⟩
    rw [Rect.mem_set_unit]
    intro a
    rw [LoadRect.idx_apply]
    fin_cases a
    · show 0 ≤ 0 + 1 * (j 0).val ∧ 0 + 1 * (j 0).val < 0 + 1; omega
    · show 0 ≤ 0 + 1 * (j 1).val ∧ 0 + 1 * (j 1).val < 0 + 128; omega
    · show 0 ≤ 0 + 1 * (j 2).val ∧ 0 + 1 * (j 2).val < 0 + 1024; omega
  · refine ⟨⟨firstR, k0_pay5 (k0_pay2 (nbAct ot c 0)) (k0_pay4 (woR wo c))⟩, by simp [firstWrites], ?_⟩
    rw [Rect.mem_set_unit]
    intro a
    rw [LoadRect.idx_apply]
    fin_cases a
    · show 0 ≤ 0 + 1 * (j 0).val ∧ 0 + 1 * (j 0).val < 0 + 1; omega
    · show 0 ≤ 0 + 1 * (j 1).val ∧ 0 + 1 * (j 1).val < 0 + 128; omega
    · show 1024 ≤ 0 + 1 * (j 2).val ∧ 0 + 1 * (j 2).val < 1024 + 1024; omega

omit [FloatOps F] in
theorem read_wc_store (r : Rect S1024x2048) (f : wcM.view.ty.Contents (Elt F)) (w : r.shape.Idx → Elt F .bf16) :
    wcM.view.readAt (Elt F) r.toLoadRect ((wcM.access r).write (Elt F) f w Finset.univ) = w :=
  View.read_write_univ (v := wcM.view.slice r) f w

theorem run_first (c : Dev nD) (Kt : PUnit → sProp 𝕄) :
    iprop(whole otM c (ot c) ∗ whole woM c (wo c) ∗ (∃ f, whole wcM c f) ∗ chunkAny xsM c 0
        ∗ ((whole otM c (ot c) ∗ whole woM c (wo c) ∗ wcAt wo c ∗ chunkAt xsM c 0 (xV ot wo c 0)) -∗ Kt ⟨⟩))
      ⊢ run c (first c) Kt := by
  unfold first chunkAny chunkPt
  simp only [Prog.lift, Prog.bind_op, Prog.bind_ret]
  iintro ⟨Hot, Hwo, ⟨%fw, Hw⟩, ⟨%fx, Hx⟩, Hk⟩
  iapply (run_load woM halfL c Finset.univ (Finset.subset_univ _) (wo c)) $$ [-]
  isplitl [Hwo]; · iexact Hwo
  iintro Hwo
  iapply (run_load wcM halfL c Finset.univ (Finset.subset_univ _) fw) $$ [-]
  isplitl [Hw]; · iexact Hw
  iintro Hw
  iapply (run_store wcM halfL _ c Finset.univ (Finset.subset_univ _) fw) $$ [-]
  isplitl [Hw]; · iexact Hw
  iintro Hw
  iapply (run_load otM (nbR c 0) c Finset.univ (Finset.subset_univ _) (ot c)) $$ [-]
  isplitl [Hot]; · iexact Hot
  iintro Hot
  iapply (run_load wcM halfL c Finset.univ (Finset.subset_univ _) _) $$ [-]
  isplitl [Hw]; · iexact Hw
  iintro Hw
  rw [read_wc_store]
  iapply (run_load xsM firstL c (chunkM xsM 0).view.set (first_sub _ firstL_sub) fx) $$ [-]
  isplitl [Hx]; · iexact Hx
  iintro Hx
  iapply (run_store xsM firstL _ c (chunkM xsM 0).view.set (first_sub _ firstL_sub) fx) $$ [-]
  isplitl [Hx]; · iexact Hx
  iintro Hx
  iapply (run_load woM halfR c Finset.univ (Finset.subset_univ _) (wo c)) $$ [-]
  isplitl [Hwo]; · iexact Hwo
  iintro Hwo
  iapply (run_load wcM halfR c Finset.univ (Finset.subset_univ _) _) $$ [-]
  isplitl [Hw]; · iexact Hw
  iintro Hw
  iapply (run_store wcM halfR _ c Finset.univ (Finset.subset_univ _) _) $$ [-]
  isplitl [Hw]; · iexact Hw
  iintro Hw
  iapply (run_load wcM halfR c Finset.univ (Finset.subset_univ _) _) $$ [-]
  isplitl [Hw]; · iexact Hw
  iintro Hw
  rw [read_wc_store]
  iapply (run_load xsM firstR c (chunkM xsM 0).view.set (first_sub _ firstR_sub) _) $$ [-]
  isplitl [Hx]; · iexact Hx
  iintro Hx
  iapply (run_store xsM firstR _ c (chunkM xsM 0).view.set (first_sub _ firstR_sub) _) $$ [-]
  isplitl [Hx]; · iexact Hx
  iintro Hx
  unfold run
  rw [wp_ret]
  imodintro
  iapply Hk
  isplitl [Hot]; · iexact Hot
  isplitl [Hwo]; · iexact Hwo
  isplitl [Hw]
  · unfold wcAt
    iexists _
    isplitl [Hw]; · iexact Hw
    ipureintro; exact wc_cover wo c fw
  unfold chunkAt chunkPt
  iexists _
  isplitl [Hx]; · iexact Hx
  ipureintro; exact first_cover ot wo c fx

end Cert.KernelIdeal.Steps

end
-- ==== Proof.Body.lean ====
/- The whole body on any device: the steps in their order, four chunks at a time. -/
module

public import proofs.«01_k».proof.Proof.Steps

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.KernelIdeal.Plan Cert.KernelIdeal.Proto Cert.KernelIdeal.Steps

variable {F : FTy → Type} [FloatOps F]

local notation "𝕄" => MT nD τ sig Unit (Elt F) ℕ UU ℕ

/-! ## Four steps in a row -/

omit [FloatOps F] in
theorem four (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- Step `k` takes `A k` and its own `Pre k`, and leaves `A (k + 1)` and `Post k`: so four of them take `A 0` to `A 4`; -/
theorem run_four_last (R : sProp 𝕄) [BI.Persistent R] (A : ℕ → sProp 𝕄) (Pre Post : Fin 4 → sProp 𝕄) (c : Dev nD) (p : Fin 4 → P F PUnit)
    (h : ∀ (k : Fin 4) (Kt : PUnit → sProp 𝕄), iprop(R ∗ A k.val ∗ Pre k ∗ ((A (k.val + 1) ∗ Post k) -∗ Kt ⟨⟩)) ⊢ run c (p k) Kt)
    (Kt : PUnit → sProp 𝕄) :
    iprop(R ∗ A 0 ∗ bigSep Finset.univ Pre ∗ ((A 4 ∗ bigSep Finset.univ Post) -∗ Kt ⟨⟩))
      ⊢ run c (p 0 >>= fun _ => p 1 >>= fun _ => p 2 >>= fun _ => p 3) Kt := by
  have h0 (Kt : PUnit → sProp 𝕄) : iprop(R ∗ A 0 ∗ Pre 0 ∗ ((A 1 ∗ Post 0) -∗ Kt ⟨⟩)) ⊢ run c (p 0) Kt := h 0 Kt
  have h1 (Kt : PUnit → sProp 𝕄) : iprop(R ∗ A 1 ∗ Pre 1 ∗ ((A 2 ∗ Post 1) -∗ Kt ⟨⟩)) ⊢ run c (p 1) Kt := h 1 Kt
  have h2 (Kt : PUnit → sProp 𝕄) : iprop(R ∗ A 2 ∗ Pre 2 ∗ ((A 3 ∗ Post 2) -∗ Kt ⟨⟩)) ⊢ run c (p 2) Kt := h 2 Kt
  have h3 (Kt : PUnit → sProp 𝕄) : iprop(R ∗ A 3 ∗ Pre 3 ∗ ((A 4 ∗ Post 3) -∗ Kt ⟨⟩)) ⊢ run c (p 3) Kt := h 3 Kt
  rw [four, four]
  iintro ⟨#HR, HA, ⟨H0, H1, H2, H3⟩, Hk⟩
  rw [run_bind]
  iapply h0 $$ [-]
  isplitr; · iexact HR
  isplitl [HA]; · iexact HA
  isplitl [H0]; · iexact H0
  iintro ⟨HA, H0⟩
  rw [run_bind]
  iapply h1 $$ [-]
  isplitr; · iexact HR
  isplitl [HA]; · iexact HA
  isplitl [H1]; · iexact H1
  iintro ⟨HA, H1⟩
  rw [run_bind]
  iapply h2 $$ [-]
  isplitr; · iexact HR
  isplitl [HA]; · iexact HA
  isplitl [H2]; · iexact H2
  iintro ⟨HA, H2⟩
  iapply h3 $$ [-]
  isplitr; · iexact HR
  isplitl [HA]; · iexact HA
  isplitl [H3]; · iexact H3
  iintro ⟨HA, H3⟩
  iapply Hk
  isplitl [HA]; · iexact HA
  isplitl [H0]; · iexact H0
  isplitl [H1]; · iexact H1
  isplitl [H2]; · iexact H2
  iexact H3

/-- and what follows them goes on from there. -/
theorem run_four (R : sProp 𝕄) [BI.Persistent R] (A : ℕ → sProp 𝕄) (Pre Post : Fin 4 → sProp 𝕄) (c : Dev nD) (p : Fin 4 → P F PUnit)
    (h : ∀ (k : Fin 4) (Kt : PUnit → sProp 𝕄), iprop(R ∗ A k.val ∗ Pre k ∗ ((A (k.val + 1) ∗ Post k) -∗ Kt ⟨⟩)) ⊢ run c (p k) Kt)
    (q : PUnit → P F PUnit) (Kt : PUnit → sProp 𝕄) :
    iprop(R ∗ A 0 ∗ bigSep Finset.univ Pre ∗ ((A 4 ∗ bigSep Finset.univ Post) -∗ run c (q ⟨⟩) Kt))
      ⊢ run c (p 0 >>= fun _ => p 1 >>= fun _ => p 2 >>= fun _ => p 3 >>= q) Kt := by
  have e : run c (p 0 >>= fun _ => p 1 >>= fun _ => p 2 >>= fun _ => p 3 >>= q) Kt
      = run c (p 0 >>= fun _ => p 1 >>= fun _ => p 2 >>= fun _ => p 3) fun a => run c (q a) Kt := by
    simp only [run_bind]
  rw [e]
  exact run_four_last R A Pre Post c p h fun a => run c (q a) Kt

variable (ot : Dev nD → Vec F S2x1024x1024 .bf16) (wo : Dev nD → Vec F S1024x2048 .bf16)

/-! ## How far the result is -/

/-- After `n₁` chunks of own products, `n₂` of sums and `n₃` of what came along y, over `st`. -/
def stage (c : Dev nD) (st : Bool → Fin 4 → Vec F S1x128x2048 .f32) (n₁ n₂ n₃ : ℕ) : Bool → Fin 4 → Vec F S1x128x2048 .f32
  | true, k => if k.val < n₂ then sumV ot wo c k else if k.val < n₁ then ownV ot wo c k else st true k
  | false, k => if k.val < n₃ then takenV ot wo c k else st false k

variable (c : Dev nD) (st : Bool → Fin 4 → Vec F S1x128x2048 .f32)

theorem stage_zero : stage ot wo c st 0 0 0 = st := by
  funext h k; cases h <;> simp [stage]

theorem lt_succ_iff' {k k' : Fin 4} : k'.val < k.val + 1 ↔ (k' = k ∨ k'.val < k.val) := by
  rw [Fin.ext_iff]; omega

theorem upd_own (k : Fin 4) : upd (stage ot wo c st k.val 0 0) true k (ownV ot wo c k) = stage ot wo c st (k.val + 1) 0 0 := by
  funext h k'
  cases h
  · simp [upd, stage]
  · by_cases e : k' = k
    · subst e; simp [upd, stage]
    · simp [upd, stage, e, lt_succ_iff']

theorem upd_sum (k : Fin 4) : upd (stage ot wo c st 4 k.val 0) true k (sumV ot wo c k) = stage ot wo c st 4 (k.val + 1) 0 := by
  funext h k'
  cases h
  · simp [upd, stage]
  · by_cases e : k' = k
    · subst e; simp [upd, stage]
    · simp [upd, stage, e, lt_succ_iff']

theorem upd_take (k : Fin 4) : upd (stage ot wo c st 4 4 k.val) false k (takenV ot wo c k) = stage ot wo c st 4 4 (k.val + 1) := by
  funext h k'
  cases h
  · by_cases e : k' = k
    · subst e; simp [upd, stage]
    · simp [upd, stage, e, lt_succ_iff']
  · simp [upd, stage]

theorem stage_own (k : Fin 4) : stage ot wo c st 4 k.val 0 true k = ownV ot wo c k := by
  simp [stage]

/-- What the eight groups of rows hold at the end. -/
def fin (c : Dev nD) : Bool → Fin 4 → Vec F S1x128x2048 .f32
  | true, k => sumV ot wo c k
  | false, k => takenV ot wo c k

theorem stage_fin : stage ot wo c st 4 4 4 = fin ot wo c := by
  funext h k; cases h <;> simp [stage, fin]

/-! ## The result's contents from its rows -/

/-- The chunk and the half an index of the result lies in, and its place there. -/
def chkAt (i : S2x512x2048.Idx) : Fin 4 := ⟨2 * (i 0).val + (i 1).val / 128 % 2, by have h : (i 0).val < 2 := (i 0).isLt; omega⟩
def halfAt (c : Dev nD) (i : S2x512x2048.Idx) : Bool := decide ((i 1).val / 256 = c.val % 2)
def locAt (i : S2x512x2048.Idx) : S1x128x2048.Idx
  | ⟨0, _⟩ => ⟨0, Nat.one_pos⟩
  | ⟨1, _⟩ => ⟨(i 1).val % 128, Nat.mod_lt _ (by decide : 0 < 128)⟩
  | ⟨2, _⟩ => ⟨(i 2).val, (i 2).isLt⟩

/-- The result. -/
def outF (c : Dev nD) : outM.view.ty.Contents (Elt F) := fun i => fin ot wo c (halfAt c i) (chkAt i) (locAt i)

theorem half_eq (i : S2x512x2048.Idx) : halfOf c (halfAt c i) = (i 1).val / 256 := by
  have h1 : (i 1).val < 512 := (i 1).isLt
  unfold halfAt
  by_cases e : (i 1).val / 256 = c.val % 2
  · simp only [e, decide_true]; rfl
  · simp only [e, decide_false]; show 1 - c.val % 2 = _; omega

theorem idx_eq (i : S2x512x2048.Idx) : (rowR c (halfAt c i) (chkAt i)).toLoadRect.idx (locAt i) = i := by
  have h0 : (i 0).val < 2 := (i 0).isLt
  have h1 : (i 1).val < 512 := (i 1).isLt
  have hh := half_eq c i
  funext a
  apply Fin.ext
  rw [LoadRect.idx_apply]
  show rowOff c (halfAt c i) (chkAt i) a + 1 * _ = _
  rw [rowOff_eq, hh]
  match a with
  | ⟨0, _⟩ =>
    show (2 * (i 0).val + (i 1).val / 128 % 2) / 2 + 1 * 0 = (i 0).val
    omega
  | ⟨1, _⟩ =>
    show 256 * ((i 1).val / 256) + 128 * ((2 * (i 0).val + (i 1).val / 128 % 2) % 2) + 1 * ((i 1).val % 128) = (i 1).val
    omega
  | ⟨2, _⟩ =>
    show 0 + 1 * (i 2).val = (i 2).val
    omega

theorem out_eq (f : outM.view.ty.Contents (Elt F)) (h : ∀ h k, outM.view.readAt (Elt F) (rowR c h k).toLoadRect f = fin ot wo c h k) :
    f = outF ot wo c := by
  funext i
  have e : outM.view.readAt (Elt F) (rowR c (halfAt c i) (chkAt i)).toLoadRect f (locAt i) = f i := by
    show f ((rowR c (halfAt c i) (chkAt i)).toLoadRect.idx (locAt i)) = f i
    rw [idx_eq]
  rw [← e, h]; rfl

/-! ## The body -/

/-- What device `c` holds, of chunk `k`, for the transfer along `b`, before the neighbours have met. -/
def sendPre (b : Bool) (c : Dev nD) (k : Fin 4) : sProp 𝕄 :=
  iprop(dutyTok ER (cmCell c (snd b) k) 0 true ∗ reached ER (cmCell c (snd b) k) 0 ∗ dutyTok ER (cmCell (nb b c) (rcv b) k) 0 true)

/-- The credit and the position of what comes along `b`. -/
def rcvPre (b : Bool) (c : Dev nD) (k : Fin 4) : sProp 𝕄 :=
  iprop(cred (tallyAt (cmCell c (rcv b) k) () N) ∗ atPos ER (cmCell c (rcv b) k) 0 ∅ 0)

/-- Chunk `k` of the send buffer along x once the first is computed. -/
def xSrc (c : Dev nD) (k : Fin 4) : sProp 𝕄 := if k = 0 then chunkAt xsM c k (xV ot wo c k) else chunkAny xsM c k

def bodyPre (K : GSem nD τ sig → ℕ) (c : Dev nD) : sProp 𝕄 :=
  iprop((invs ot wo K ∗ levAts L lv) ∗ ow c (O₀ c)
    ∗ (dutyTok ER (barCell (nbX c)) 0 true ∗ reached ER (barCell (nbX c)) 0 ∗ barPay (nbX c) true)
    ∗ (dutyTok ER (barCell (nbY c)) 0 false ∗ reached ER (barCell (nbY c)) 0 ∗ barPay (nbY c) false)
    ∗ (cred (tallyAt (barCell c) () 2) ∗ atPos ER (barCell c) 0 ∅ 0)
    ∗ bigSep Finset.univ (chunkAny xsM c) ∗ bigSep Finset.univ (chunkAny ysM c)
    ∗ bigSep Finset.univ (sendPre true c) ∗ bigSep Finset.univ (sendPre false c)
    ∗ bigSep Finset.univ (rcvPre true c) ∗ bigSep Finset.univ (rcvPre false c)
    ∗ bigSep Finset.univ (fun k : Fin 4 => (atPos ER (cmCell c 0 k) 0 ∅ 0 : sProp 𝕄)) ∗ bigSep Finset.univ (fun k : Fin 4 => (atPos ER (cmCell c 2 k) 0 ∅ 0 : sProp 𝕄))
    ∗ whole otM c (ot c) ∗ whole woM c (wo c) ∗ (∃ f, whole wcM c f) ∗ (∃ f, whole outM c f))

def bodyPost (c : Dev nD) : sProp 𝕄 :=
  iprop(ow c 0 ∗ semVal (barCell c) 0
    ∗ bigSep Finset.univ (fun k : Fin 4 => iprop(chunkAny xrM c k ∗ semVal (cmCell c 1 k) 0))
    ∗ bigSep Finset.univ (fun k : Fin 4 => iprop(chunkAny yrM c k ∗ semVal (cmCell c 3 k) 0))
    ∗ bigSep Finset.univ (fun k : Fin 4 => iprop(chunkAny xsM c k ∗ semVal (cmCell c 0 k) 0 ∗ chunkAny ysM c k ∗ semVal (cmCell c 2 k) 0))
    ∗ whole otM c (ot c) ∗ whole woM c (wo c) ∗ (∃ f, whole wcM c f) ∗ whole outM c (outF ot wo c))

omit [FloatOps F] in
theorem put_pre (b : Bool) (c : Dev nD) (k : Fin 4) : iprop(sendPre (F := F) b c k ∗ (chunkAny (bufOf (rcv b)) (nb b c) k ∗ reached ER (cmCell (nb b c) (rcv b) k) 0))
    ⊢ putPre (F := F) b c k := by
  unfold sendPre putPre
  iintro ⟨⟨H1, H2, H3⟩, H4, H5⟩
  isplitl [H4]; · iexact H4
  isplitl [H1]; · iexact H1
  isplitl [H2]; · iexact H2
  isplitl [H3]; · iexact H3
  iexact H5

omit [FloatOps F] in
theorem puts_pre (b : Bool) (c : Dev nD) : iprop(bigSep Finset.univ (sendPre (F := F) b c) ∗ barPay c b) ⊢ bigSep Finset.univ (putPre (F := F) b c) := by
  unfold barPay
  rw [← bigSep_sep']
  exact bigSep_mono fun k _ => put_pre b c k

theorem first_out (c : Dev nD) : bigSep Finset.univ (chunkAny (F := F) xsM c)
    = iprop(chunkAny xsM c 0 ∗ bigSep (Finset.univ.erase (0 : Fin 4)) (xSrc ot wo c)) := by
  rw [bigSep_univ_at _ 0]
  have e : bigSep (Finset.univ.erase (0 : Fin 4)) (chunkAny (F := F) xsM c) = bigSep (Finset.univ.erase (0 : Fin 4)) (xSrc ot wo c) :=
    bigSep_congr fun k hk => by rw [xSrc, if_neg (Finset.ne_of_mem_erase hk)]
  rw [e]

theorem first_in (c : Dev nD) : iprop(chunkAt xsM c 0 (xV ot wo c 0) ∗ bigSep (Finset.univ.erase (0 : Fin 4)) (xSrc ot wo c))
    = bigSep Finset.univ (xSrc ot wo c) := by
  rw [bigSep_univ_at (xSrc ot wo c) 0]; rfl

/-- Chunk `k`'s step of the first phase. -/
def xStep (c : Dev nD) : Fin 4 → P F PUnit
  | 0 => putX c 0
  | 1 => sendStep c 1
  | 2 => sendStep c 2
  | 3 => sendStep c 3

theorem xStep_zero : xStep (F := F) c 0 = putX c 0 := rfl

theorem xStep_eq (k : Fin 4) (h : k ≠ 0) : xStep (F := F) c k = sendStep c k := by
  revert h; revert k; intro k
  match k with
  | 0 => intro h; exact absurd rfl h
  | 1 => intro _; rfl
  | 2 => intro _; rfl
  | 3 => intro _; rfl

def xA (c : Dev nD) (n : ℕ) : sProp 𝕄 := iprop(whole otM c (ot c) ∗ wcAt wo c ∗ ow c (owing false c 0 + owing true c n))
def ownA (c : Dev nD) (st : Bool → Fin 4 → Vec F S1x128x2048 .f32) (n : ℕ) : sProp 𝕄 := iprop(whole otM c (ot c) ∗ wcAt wo c ∗ outAt c (stage ot wo c st n 0 0))
def sumA (c : Dev nD) (st : Bool → Fin 4 → Vec F S1x128x2048 .f32) (n : ℕ) : sProp 𝕄 := iprop(outAt c (stage ot wo c st 4 n 0) ∗ ow c (owing false c n))
def takeA (c : Dev nD) (st : Bool → Fin 4 → Vec F S1x128x2048 .f32) (n : ℕ) : sProp 𝕄 := iprop(outAt c (stage ot wo c st 4 4 n) ∗ ow c 0)

/-- The context every step reads. -/
abbrev ctx (K : GSem nD τ sig → ℕ) : sProp 𝕄 := iprop(invs ot wo K ∗ levAts L lv)

theorem x_step (K : GSem nD τ sig → ℕ) (k : Fin 4) (Kt : PUnit → sProp 𝕄) :
    iprop(ctx ot wo K ∗ xA ot wo c k.val ∗ (xSrc ot wo c k ∗ putPre true c k)
        ∗ ((xA ot wo c (k.val + 1) ∗ cred (tallyAt (cmCell c 0 k) () N)) -∗ Kt ⟨⟩)) ⊢ run c (xStep c k) Kt := by
  unfold xA xSrc
  by_cases e : k = 0
  · subst e
    rw [if_pos rfl, xStep_zero]
    iintro ⟨⟨#HI, -⟩, ⟨Hot, Hw, HO⟩, ⟨Hs, Hp⟩, Hk⟩
    iapply (run_putX ot wo K c 0 (owing false c 0)) $$ [-]
    isplitr; · iexact HI
    isplitl [Hs]; · iexact Hs
    isplitl [Hp]; · iexact Hp
    isplitl [HO]; · iexact HO
    iintro ⟨Hc, HO⟩
    iapply Hk
    isplitr [Hc]
    · isplitl [Hot]; · iexact Hot
      isplitl [Hw]; · iexact Hw
      iexact HO
    iexact Hc
  · rw [if_neg e, xStep_eq c k e]
    iintro ⟨⟨#HI, -⟩, ⟨Hot, Hw, HO⟩, ⟨Hs, Hp⟩, Hk⟩
    iapply (run_sendStep ot wo K c k e (owing false c 0)) $$ [-]
    isplitr; · iexact HI
    isplitl [Hot]; · iexact Hot
    isplitl [Hw]; · iexact Hw
    isplitl [Hs]; · iexact Hs
    isplitl [Hp]; · iexact Hp
    isplitl [HO]; · iexact HO
    iintro ⟨Hot, Hw, Hc, HO⟩
    iapply Hk
    isplitr [Hc]
    · isplitl [Hot]; · iexact Hot
      isplitl [Hw]; · iexact Hw
      iexact HO
    iexact Hc

theorem own_step (K : GSem nD τ sig → ℕ) (k : Fin 4) (Kt : PUnit → sProp 𝕄) :
    iprop(ctx ot wo K ∗ ownA ot wo c st k.val ∗ emp ∗ ((ownA ot wo c st (k.val + 1) ∗ emp) -∗ Kt ⟨⟩)) ⊢ run c (ownStep c k) Kt := by
  unfold ownA
  iintro ⟨-, ⟨Hot, Hw, Ho⟩, -, Hk⟩
  iapply (run_ownStep ot wo c k (stage ot wo c st k.val 0 0)) $$ [-]
  isplitl [Hot]; · iexact Hot
  isplitl [Hw]; · iexact Hw
  isplitl [Ho]; · iexact Ho
  rw [upd_own]
  iintro ⟨Hot, Hw, Ho⟩
  iapply Hk
  isplitl
  · isplitl [Hot]; · iexact Hot
    isplitl [Hw]; · iexact Hw
    iexact Ho
  iempintro

theorem sum_step (K : GSem nD τ sig → ℕ) (k : Fin 4) (Kt : PUnit → sProp 𝕄) :
    iprop(ctx ot wo K ∗ sumA ot wo c st k.val ∗ (chunkAny ysM c k ∗ putPre false c k ∗ rcvPre true c k)
        ∗ ((sumA ot wo c st (k.val + 1) ∗ ((chunkAny xrM c k ∗ semVal (cmCell c 1 k) 0) ∗ cred (tallyAt (cmCell c 2 k) () N))) -∗ Kt ⟨⟩))
      ⊢ run c (sumStep c k) Kt := by
  unfold sumA rcvPre
  iintro ⟨⟨#HI, #HL⟩, ⟨Ho, HO⟩, ⟨Hy, Hp, Hc, Hat⟩, Hk⟩
  iapply (run_sumStep ot wo K c k (stage ot wo c st 4 k.val 0) (stage_own ot wo c st k)) $$ [-]
  isplitr; · iexact HI
  isplitr; · iexact HL
  isplitl [Ho]; · iexact Ho
  isplitl [Hy]; · iexact Hy
  isplitl [Hp]; · iexact Hp
  isplitl [Hc]; · iexact Hc
  isplitl [Hat]; · iexact Hat
  isplitl [HO]; · iexact HO
  rw [upd_sum]
  iintro ⟨Ho, Hr, Hz, Hc, HO⟩
  iapply Hk
  isplitl [Ho HO]
  · isplitl [Ho]; · iexact Ho
    iexact HO
  isplitl [Hr Hz]
  · isplitl [Hr]; · iexact Hr
    iexact Hz
  iexact Hc

theorem take_step (K : GSem nD τ sig → ℕ) (k : Fin 4) (Kt : PUnit → sProp 𝕄) :
    iprop(ctx ot wo K ∗ takeA ot wo c st k.val ∗ rcvPre false c k
        ∗ ((takeA ot wo c st (k.val + 1) ∗ (chunkAny yrM c k ∗ semVal (cmCell c 3 k) 0)) -∗ Kt ⟨⟩)) ⊢ run c (takeStep c k) Kt := by
  unfold takeA rcvPre
  iintro ⟨⟨#HI, -⟩, ⟨Ho, HO⟩, ⟨Hc, Hat⟩, Hk⟩
  iapply (run_takeStep ot wo K c k (stage ot wo c st 4 4 k.val)) $$ [-]
  isplitr; · iexact HI
  isplitl [Ho]; · iexact Ho
  isplitl [Hc]; · iexact Hc
  isplitl [Hat]; · iexact Hat
  isplitl [HO]; · iexact HO
  rw [upd_take]
  iintro ⟨Ho, Hr, Hz, HO⟩
  iapply Hk
  isplitl [Ho HO]
  · isplitl [Ho]; · iexact Ho
    iexact HO
  isplitl [Hr]; · iexact Hr
  iexact Hz

theorem drain_step (K : GSem nD τ sig → ℕ) (k : Fin 4) (Kt : PUnit → sProp 𝕄) :
    iprop(ctx ot wo K ∗ ow c 0 ∗ ((cred (tallyAt (cmCell c 0 k) () N) ∗ atPos ER (cmCell c 0 k) 0 ∅ 0) ∗ (cred (tallyAt (cmCell c 2 k) () N) ∗ atPos ER (cmCell c 2 k) 0 ∅ 0))
        ∗ ((ow c 0 ∗ (chunkAny xsM c k ∗ semVal (cmCell c 0 k) 0 ∗ chunkAny ysM c k ∗ semVal (cmCell c 2 k) 0)) -∗ Kt ⟨⟩)) ⊢ run c (drainStep k) Kt := by
  iintro ⟨⟨#HI, -⟩, HO, ⟨⟨Hc, Hat⟩, Hc', Hat'⟩, Hk⟩
  iapply (run_drainStep ot wo K c k) $$ [-]
  isplitr; · iexact HI
  isplitl [Hc]; · iexact Hc
  isplitl [Hat]; · iexact Hat
  isplitl [Hc']; · iexact Hc'
  isplitl [Hat']; · iexact Hat'
  isplitl [HO]; · iexact HO
  iintro ⟨H1, H2, H3, H4, HO⟩
  iapply Hk
  isplitl [HO]; · iexact HO
  isplitl [H1]; · iexact H1
  isplitl [H2]; · iexact H2
  isplitl [H3]; · iexact H3
  iexact H4

omit [FloatOps F] in
/-- The result's buffer at whatever it holds. -/
theorem out_any (c : Dev nD) (f : outM.view.ty.Contents (Elt F)) :
    (whole outM c f : sProp 𝕄) ⊢ outAt c (fun h k => outM.view.readAt (Elt F) (rowR c h k).toLoadRect f) := by
  unfold outAt
  iintro H; iexists f
  isplitl [H]; · iexact H
  ipureintro; exact fun _ _ => rfl

/-- A program that first asks for its device goes on as that device's. -/
theorem run_deviceId (p : Dev nD → P F PUnit) (Kt : PUnit → sProp 𝕄) : run c (Prog.lift .deviceId >>= p) Kt = run c (p c) Kt := by
  simp only [Prog.lift, Prog.bind_op, Prog.bind_ret]
  exact wp_deviceId ..

theorem run_plan (K : GSem nD τ sig → ℕ) (Kt : PUnit → sProp 𝕄) :
    iprop(bodyPre ot wo K c ∗ (bodyPost ot wo c -∗ Kt ⟨⟩)) ⊢ run c plan Kt := by
  unfold plan bodyPre
  rw [run_deviceId]
  iintro ⟨⟨⟨#HI, #HL⟩, HO, ⟨Hb1, Hb2, Hb3⟩, ⟨Hb4, Hb5, Hb6⟩, ⟨Hb7, Hb8⟩, Hxs, Hys, Hsx, Hsy, Hrx, Hry, Ha0, Ha2, Hot, Hwo, Hwc, ⟨%f, Hout⟩⟩, Hk⟩
  ihave Ho := (out_any c f) $$ Hout
  rw [run_bind]
  iapply (run_meet ot wo K c) $$ [-]
  isplitr; · iexact HI
  isplitr; · iexact HL
  isplitl [HO]; · iexact HO
  isplitl [Hb1]; · iexact Hb1
  isplitl [Hb2]; · iexact Hb2
  isplitl [Hb3]; · iexact Hb3
  isplitl [Hb4]; · iexact Hb4
  isplitl [Hb5]; · iexact Hb5
  isplitl [Hb6]; · iexact Hb6
  isplitl [Hb7]; · iexact Hb7
  isplitl [Hb8]; · iexact Hb8
  iintro ⟨HO, Hbar, Hpf, Hpt⟩
  ihave Hpx := (puts_pre true c) $$ [Hsx Hpt]
  · isplitl [Hsx]; · iexact Hsx
    iexact Hpt
  ihave Hpy := (puts_pre false c) $$ [Hsy Hpf]
  · isplitl [Hsy]; · iexact Hsy
    iexact Hpf
  ihave Hxs' := (Entails.of_eq (first_out ot wo c)) $$ Hxs
  icases Hxs' with ⟨Hx0, Hxs⟩
  rw [run_bind]
  iapply (run_first ot wo c) $$ [-]
  isplitl [Hot]; · iexact Hot
  isplitl [Hwo]; · iexact Hwo
  isplitl [Hwc]; · iexact Hwc
  isplitl [Hx0]; · iexact Hx0
  iintro ⟨Hot, Hwo, Hw, Hx0⟩
  ihave Hxs' := (Entails.of_eq (first_in ot wo c)) $$ [Hx0 Hxs]
  · isplitl [Hx0]; · iexact Hx0
    iexact Hxs
  -- the products for the x-neighbour
  iapply (run_four (ctx ot wo K) (xA ot wo c) (fun k => iprop(xSrc ot wo c k ∗ putPre true c k)) (fun k => cred (tallyAt (cmCell c 0 k) () N)) c (xStep c)
    (x_step ot wo c K)) $$ [-]
  isplitr
  · isplitr; · iexact HI
    iexact HL
  isplitl [Hot Hw HO]
  · unfold xA
    isplitl [Hot]; · iexact Hot
    isplitl [Hw]; · iexact Hw
    iexact HO
  isplitl [Hxs' Hpx]
  · rw [bigSep_sep']
    isplitl [Hxs']; · iexact Hxs'
    iexact Hpx
  unfold xA
  rw [owing_done, add_zero]
  iintro ⟨⟨Hot, Hw, HO⟩, Hcx⟩
  -- the device's own
  generalize (fun h k => outM.view.readAt (Elt F) (rowR c h k).toLoadRect f) = st
  iapply (run_four (ctx ot wo K) (ownA ot wo c st) (fun _ => iprop(emp)) (fun _ => iprop(emp)) c (ownStep c) (own_step ot wo c st K)) $$ [-]
  isplitr
  · isplitr; · iexact HI
    iexact HL
  isplitl [Hot Hw Ho]
  · unfold ownA
    rw [stage_zero]
    isplitl [Hot]; · iexact Hot
    isplitl [Hw]; · iexact Hw
    iexact Ho
  isplitr
  · rw [four]
    isplitr; · iempintro
    isplitr; · iempintro
    isplitr; · iempintro
    iempintro
  unfold ownA
  iintro ⟨⟨Hot, Hw, Ho⟩, -⟩
  -- the sums
  iapply (run_four (ctx ot wo K) (sumA ot wo c st) (fun k => iprop(chunkAny ysM c k ∗ putPre false c k ∗ rcvPre true c k))
    (fun k => iprop((chunkAny xrM c k ∗ semVal (cmCell c 1 k) 0) ∗ cred (tallyAt (cmCell c 2 k) () N))) c (sumStep c) (sum_step ot wo c st K)) $$ [-]
  isplitr
  · isplitr; · iexact HI
    iexact HL
  isplitl [Ho HO]
  · unfold sumA
    isplitl [Ho]; · iexact Ho
    iexact HO
  isplitl [Hys Hpy Hrx]
  · rw [bigSep_sep', bigSep_sep']
    isplitl [Hys]; · iexact Hys
    isplitl [Hpy]; · iexact Hpy
    iexact Hrx
  unfold sumA
  rw [owing_done, bigSep_sep']
  iintro ⟨⟨Ho, HO⟩, HX, Hcy⟩
  -- what comes along y
  iapply (run_four (ctx ot wo K) (takeA ot wo c st) (rcvPre false c) (fun k => iprop(chunkAny yrM c k ∗ semVal (cmCell c 3 k) 0)) c (takeStep c)
    (take_step ot wo c st K)) $$ [-]
  isplitr
  · isplitr; · iexact HI
    iexact HL
  isplitl [Ho HO]
  · unfold takeA
    isplitl [Ho]; · iexact Ho
    iexact HO
  isplitl [Hry]; · iexact Hry
  unfold takeA
  rw [stage_fin]
  iintro ⟨⟨Ho, HO⟩, HY⟩
  -- the sends' own waits
  iapply (run_four_last (ctx ot wo K) (fun _ => ow c 0)
    (fun k => iprop((cred (tallyAt (cmCell c 0 k) () N) ∗ atPos ER (cmCell c 0 k) 0 ∅ 0) ∗ (cred (tallyAt (cmCell c 2 k) () N) ∗ atPos ER (cmCell c 2 k) 0 ∅ 0)))
    (fun k => iprop(chunkAny xsM c k ∗ semVal (cmCell c 0 k) 0 ∗ chunkAny ysM c k ∗ semVal (cmCell c 2 k) 0)) c drainStep (drain_step ot wo c K)) $$ [-]
  isplitr
  · isplitr; · iexact HI
    iexact HL
  isplitl [HO]; · iexact HO
  isplitl [Hcx Ha0 Hcy Ha2]
  · rw [bigSep_sep', bigSep_sep', bigSep_sep']
    isplitl [Hcx Ha0]
    · isplitl [Hcx]; · iexact Hcx
      iexact Ha0
    isplitl [Hcy]; · iexact Hcy
    iexact Ha2
  iintro ⟨HO, HD⟩
  iapply Hk
  unfold bodyPost
  isplitl [HO]; · iexact HO
  isplitl [Hbar]; · iexact Hbar
  isplitl [HX]; · iexact HX
  isplitl [HY]; · iexact HY
  isplitl [HD]; · iexact HD
  isplitl [Hot]; · iexact Hot
  isplitl [Hwo]; · iexact Hwo
  isplitl [Hw]
  · unfold wcAt
    icases Hw with ⟨%fw, Hw, -⟩
    iexists fw; iexact Hw
  unfold outAt
  icases Ho with ⟨%fo, Ho, %ho⟩
  rw [← out_eq ot wo c fo ho]
  iexact Ho

end Cert.KernelIdeal.Body

end
-- ==== Proof.Region.lean ====
/- The kernel's region on one device: its windows, its scratch buffers taken apart and put together, the body's obligation. -/
module

public import proofs.«01_k».proof.Proof.Body
public import proofs.«01_k».proof.Proof.Gen.KernelIdeal.Frame
public import Idealize.ShloMosaic.Lib.Pipeline.RegionTalk

@[expose] public section

set_option maxRecDepth 16384

noncomputable section

namespace Cert.KernelIdeal.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.KernelIdeal.Plan Cert.KernelIdeal.Proto Cert.KernelIdeal.Steps Cert.KernelIdeal.Body

variable {F : FTy → Type} [FloatOps F]

local notation "𝕄" => MT nD τ sig Unit (Elt F) ℕ UU ℕ

/-! ## A buffer of four chunks -/

theorem chunk_disj (M : Memref sig .tc .vmem S4x128x2048 .bf16) : ∀ k ∈ (Finset.univ : Finset (Fin 4)), ∀ k' ∈ (Finset.univ : Finset (Fin 4)), k ≠ k' →
    Disjoint (chunkM M k).view.set (chunkM M k').view.set := by
  intro k _ k' _ hne
  rw [chunk_set, chunk_set]
  rw [show (M.access (chunkR k)).set = (M.view.slice (chunkR k)).set from rfl, show (M.access (chunkR k')).set = (M.view.slice (chunkR k')).set from rfl,
    View.set_slice, View.set_slice, Finset.disjoint_map, Finset.disjoint_left]
  intro i hi hi'
  rw [Rect.mem_set_unit] at hi hi'
  have a : k.val ≤ (i 0).val ∧ (i 0).val < k.val + 1 := hi 0
  have b : k'.val ≤ (i 0).val ∧ (i 0).val < k'.val + 1 := hi' 0
  exact hne (Fin.ext (by omega))

theorem chunk_union (M : Memref sig .tc .vmem S4x128x2048 .bf16) (hM : M.view.set = Finset.univ) :
    (Finset.univ : Finset (Fin 4)).biUnion (fun k => ((chunkM M k).view.set : Finset M.view.ty.Idx)) = (Finset.univ : Finset M.view.ty.Idx) := by
  refine Finset.eq_univ_iff_forall.mpr fun i => ?_
  have hi : i ∈ M.view.set := by rw [hM]; exact Finset.mem_univ i
  obtain ⟨j, -, rfl⟩ := Finset.mem_map.mp hi
  have h0 : (j 0).val < 4 := (j 0).isLt
  refine Finset.mem_biUnion.mpr ⟨⟨(j 0).val, h0⟩, Finset.mem_univ _, ?_⟩
  rw [chunk_set]
  show M.view.emb j ∈ (M.view.slice (chunkR ⟨(j 0).val, h0⟩)).set
  rw [View.set_slice]
  refine Finset.mem_map_of_mem _ (Rect.mem_set_unit.mpr fun a => ?_)
  match a with
  | ⟨0, _⟩ => exact ⟨Nat.le_refl _, Nat.lt_succ_self _⟩
  | ⟨1, _⟩ => exact ⟨Nat.zero_le _, show (j 1).val < 0 + 128 from by have h : (j 1).val < 128 := (j 1).isLt; omega⟩
  | ⟨2, _⟩ => exact ⟨Nat.zero_le _, show (j 2).val < 0 + 2048 from by have h : (j 2).val < 2048 := (j 2).isLt; omega⟩

omit [FloatOps F] in
theorem chunks_split (M : Memref sig .tc .vmem S4x128x2048 .bf16) (hM : M.view.set = Finset.univ) (c : Dev nD) (f : M.view.ty.Contents (Elt F)) :
    (whole M c f : sProp 𝕄) ⊢ bigSep Finset.univ (chunkAny M c) := by
  have e : (whole M c f : sProp 𝕄) = bigSep Finset.univ fun k => chunkPt M c k f := by
    have h := pointsTo_biUnion (Ix := Unit) (Name := ℕ) (U := UU) (Lvl := ℕ) (Val := Elt F) (ℓ := M.view.loc (c : Thread nD τ)) (q := fullShare) (f := f)
      Finset.univ (fun k => (chunkM M k).view.set) (chunk_disj M)
    rw [chunk_union M hM] at h
    exact h
  rw [e]
  have h (k : Fin 4) : (chunkPt M c k f : sProp 𝕄) ⊢ chunkAny M c k := by
    unfold chunkAny
    iintro H; iexists f; iexact H
  exact bigSep_mono fun k _ => h k

omit [FloatOps F] in
theorem chunks_join (M : Memref sig .tc .vmem S4x128x2048 .bf16) (hM : M.view.set = Finset.univ) (c : Dev nD) :
    (bigSep Finset.univ (chunkAny (F := F) M c) : sProp 𝕄) ⊢ iprop(∃ f, whole M c f) := by
  rw [four]
  unfold chunkAny
  iintro ⟨⟨%f0, H0⟩, ⟨%f1, H1⟩, ⟨%f2, H2⟩, ⟨%f3, H3⟩⟩
  have h := pointsTo_biUnion_join (Ix := Unit) (Name := ℕ) (U := UU) (Lvl := ℕ) (Val := Elt F) (ℓ := M.view.loc (c : Thread nD τ)) (q := fullShare)
    Finset.univ (fun k => (chunkM M k).view.set) (![f0, f1, f2, f3] : Fin 4 → Buf (Elt F) (M.view.loc (c : Thread nD τ))) f0 (chunk_disj M)
  rw [four] at h
  have h' : iprop(chunkPt M c 0 f0 ∗ chunkPt M c 1 f1 ∗ chunkPt M c 2 f2 ∗ chunkPt M c 3 f3)
      ⊢ (iprop(∃ g, ⌜∀ k ∈ (Finset.univ : Finset (Fin 4)), ∀ i ∈ (chunkM M k).view.set, g i = (![f0, f1, f2, f3] : Fin 4 → Buf (Elt F) (M.view.loc (c : Thread nD τ))) k i⌝
        ∗ M.view.loc (c : Thread nD τ) ↦[(Finset.univ : Finset (Fin 4)).biUnion fun k => ((chunkM M k).view.set : Finset M.view.ty.Idx)]{fullShare} g) : sProp 𝕄) := h
  rw [chunk_union M hM] at h'
  ihave H := h' $$ [H0 H1 H2 H3]
  · isplitl [H0]; · iexact H0
    isplitl [H1]; · iexact H1
    isplitl [H2]; · iexact H2
    iexact H3
  icases H with ⟨%g, -, H⟩
  iexists g; iexact H

/-! ## The windows -/

variable (m : (ℓ : Loc nD τ sig) → Buf (Elt F) ℓ)

/-- The activations and the weights as the region finds them on device `c`. -/
abbrev otOf (c : Dev nD) : Vec F S2x1024x1024 .bf16 := V m c main_v2
abbrev woOf (c : Dev nD) : Vec F S1024x2048 .bf16 := V m c main_arg1
/-- What it leaves in the result. -/
abbrev outOf (c : Dev nD) : Vec F S2x512x2048 .f32 := outF (otOf m) (woOf m) c

/-- A region without a grid has every block whole. -/
theorem blk_read0 (t : Fin cfg0.N) (f : Vec F S2x1024x1024 .bf16) : ((cfg0.win 0).blk t).view.read (Elt F) f = f :=
  funext fun j => congrArg f (funext fun a => Fin.ext (by show 0 * _ + 1 * (j a).val = (j a).val; omega))
theorem blk_read1 (t : Fin cfg0.N) (f : Vec F S1024x2048 .bf16) : ((cfg0.win 1).blk t).view.read (Elt F) f = f :=
  funext fun j => congrArg f (funext fun a => Fin.ext (by show 0 * _ + 1 * (j a).val = (j a).val; omega))
theorem blk_read2 (t : Fin cfg0.N) (f : Vec F S2x512x2048 .f32) : ((cfg0.win 2).blk t).view.read (Elt F) f = f :=
  funext fun j => congrArg f (funext fun a => Fin.ext (by show 0 * _ + 1 * (j a).val = (j a).val; omega))
theorem blk_write2 (t : Fin cfg0.N) (f w : Vec F S2x512x2048 .f32) : ((cfg0.win 2).blk t).view.write (Elt F) f w Finset.univ = w :=
  (blk_read2 t _).symm.trans (View.read_write_univ (v := ((cfg0.win 2).blk t).view) f w)

/-! ## What passes through the region -/

/-- The tokens and credits of device `c`. -/
def base (c : Dev nD) : sProp 𝕄 :=
  iprop((dutyTok ER (barCell (nbX c)) 0 true ∗ reached ER (barCell (nbX c)) 0)
    ∗ (dutyTok ER (barCell (nbY c)) 0 false ∗ reached ER (barCell (nbY c)) 0)
    ∗ (cred (tallyAt (barCell c) () 2) ∗ atPos ER (barCell c) 0 ∅ 0)
    ∗ (bigSep Finset.univ (fun k : Fin 4 => (dutyTok ER (cmCell c 0 k) 0 true : sProp 𝕄)) ∗ bigSep Finset.univ (fun k : Fin 4 => (dutyTok ER (cmCell (nbX c) 1 k) 0 true : sProp 𝕄)))
    ∗ (bigSep Finset.univ (fun k : Fin 4 => (dutyTok ER (cmCell c 2 k) 0 true : sProp 𝕄)) ∗ bigSep Finset.univ (fun k : Fin 4 => (dutyTok ER (cmCell (nbY c) 3 k) 0 true : sProp 𝕄)))
    ∗ (bigSep Finset.univ (fun k : Fin 4 => (cred (tallyAt (cmCell c 1 k) () N) : sProp 𝕄)) ∗ bigSep Finset.univ (fun k : Fin 4 => (cred (tallyAt (cmCell c 3 k) () N) : sProp 𝕄))))

/-- The transfer semaphores, which exist only inside the region. -/
def osem (p : Fin 4 × Fin 4) : SemLoc sig := .dma (cmS p.1 p.2)

/-- Before the region, its cells not yet open; -/
def Tk (c : Dev nD) : sProp 𝕄 :=
  iprop(∃ K, invs (otOf m) (woOf m) K ∗ base c ∗ bigSep Finset.univ fun p : Fin 4 × Fin 4 => openTok ER (cmCell c p.1 p.2))
/-- inside, at the start; -/
def Xk (c : Dev nD) : sProp 𝕄 :=
  iprop(∃ K, ctx (otOf m) (woOf m) K ∗ base c ∗ bigSep Finset.univ fun p : Fin 4 × Fin 4 => iprop(atPos ER (cmCell c p.1 p.2) 0 ∅ 0 ∗ reached ER (cmCell c p.1 p.2) 0))
/-- after it. -/
def Yk (c : Dev nD) : sProp 𝕄 := semVal (barCell c) 0

/-- The scratch buffers, at contents not chosen. -/
def scratch (c : Dev nD) : sProp 𝕄 :=
  iprop((∃ f, whole wcM c f) ∗ (∃ f, whole xsM c f) ∗ (∃ f, whole xrM c f) ∗ (∃ f, whole ysM c f) ∗ (∃ f, whole yrM c f))

omit [FloatOps F] in
theorem scratch_eq (c : Dev nD) :
    (Pipeline.scopedRest (Ix := Unit) (Name := ℕ) (U := UU) (Lvl := ℕ) (Val := Elt F) spec0 c : sProp 𝕄) = scratch c := scopedRest0_eq c

/-- The region's invariant before its point and after it, and what is owed then. -/
def stateAt (c : Dev nD) : ℕ → sProp 𝕄
  | 0 => iprop(Xk m c ∗ scratch c ∗ ∃ r, prngReg c r)
  | _ + 1 => iprop(Yk c ∗ Pipeline.ownSems0 osem c ∗ scratch c ∗ ∃ r, prngReg c r)
def owedAt (c : Dev nD) : ℕ → CellTallies nD τ sig Unit
  | 0 => O₀ c
  | _ + 1 => 0

def dat0 (c : Dev nD) : Dat τ (Elt F) Unit ℕ UU ℕ cfg0 c where
  A w := V m c (Pipeline.arrRef spec0 w)
  after w t := match w with
    | ⟨0, _⟩ => otOf m c
    | ⟨1, _⟩ => woOf m c
    | ⟨2, _⟩ => outOf m c
    | ⟨_ + 3, h⟩ => absurd h (Nat.not_lt.2 (Nat.le_add_left _ _))
  Φ t := stateAt m c t.val
  q _ := fullShare
  owed t := owedAt c t.val

theorem before0 (c : Dev nD) (t : Fin cfg0.N) (d) : (dat0 m c).before 0 t d = otOf m c :=
  ((dat0 m c).before_in_eq_fetched 0 rfl (fun _ => rfl) (fun _ _ _ => rfl) (fun t => (blk_read0 t (otOf m c)).symm) t d).trans (blk_read0 t (otOf m c))
theorem before1 (c : Dev nD) (t : Fin cfg0.N) (d) : (dat0 m c).before 1 t d = woOf m c :=
  ((dat0 m c).before_in_eq_fetched 1 rfl (fun _ => rfl) (fun _ _ _ => rfl) (fun t => (blk_read1 t (woOf m c)).symm) t d).trans (blk_read1 t (woOf m c))

omit [FloatOps F] in
theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; rw [Memref.view_whole]; simp only [View.read_whole, View.set_whole]

theorem owed_first (c : Dev nD) : (dat0 (F := F) m c).owed t0_0.castSucc = O₀ c := rfl
theorem owed_last (c : Dev nD) : (dat0 (F := F) m c).owed t0_0.succ = 0 := rfl
theorem inv_first (c : Dev nD) : (dat0 m c).Φ t0_0.castSucc = iprop(Xk m c ∗ scratch c ∗ ∃ r, prngReg c r) := rfl
theorem inv_last (c : Dev nD) : (dat0 m c).Φ t0_0.succ = iprop(Yk c ∗ Pipeline.ownSems0 osem c ∗ scratch c ∗ ∃ r, prngReg c r) := rfl

theorem owes_before (c : Dev nD) : ((dat0 (F := F) m c).owesAt () t0_0.castSucc : sProp 𝕄) ⊢ ow c (O₀ c) := by
  unfold Dat.owesAt Pipeline.owesWithin ow
  rw [owed_first]
  iintro ⟨%W, -, H⟩; iexists W; iexact H

theorem owes_after (c : Dev nD) : (ow c 0 : sProp 𝕄) ⊢ ((dat0 (F := F) m c).owesAt () t0_0.succ : sProp 𝕄) := by
  unfold Dat.owesAt Pipeline.owesWithin Dat.bound ow
  rw [owed_last]
  iintro ⟨%W, H⟩
  iexists W
  isplitr; · ipureintro; exact fun _ _ => Or.inl trivial
  iexact H

omit [FloatOps F] in
/-- What a device's own receive buffer pays to the neighbour along `b`. -/
theorem barPay_own (b : Bool) (c : Dev nD) : (barPay (nb b c) b : sProp 𝕄)
    = iprop(bigSep Finset.univ (chunkAny (bufOf (rcv b)) c) ∗ bigSep Finset.univ (fun k : Fin 4 => reached ER (cmCell c (rcv b) k) 0)) := by
  unfold barPay
  rw [nb_nb, bigSep_sep']

omit [FloatOps F] in
/-- Over the transfer cells, array by array. -/
theorem cells_eq (Φ : Fin 4 → Fin 4 → sProp 𝕄) : (bigSep Finset.univ fun p : Fin 4 × Fin 4 => Φ p.1 p.2)
    = iprop(bigSep Finset.univ (Φ 0) ∗ bigSep Finset.univ (Φ 1) ∗ bigSep Finset.univ (Φ 2) ∗ bigSep Finset.univ (Φ 3)) := by
  rw [bigSep_univ_prod, four]

omit [FloatOps F] in
theorem sends_eq (b : Bool) (c : Dev nD) : (bigSep Finset.univ (sendPre b c) : sProp 𝕄)
    = iprop(bigSep Finset.univ (fun k : Fin 4 => (dutyTok ER (cmCell c (snd b) k) 0 true : sProp 𝕄)) ∗ bigSep Finset.univ (fun k : Fin 4 => (reached ER (cmCell c (snd b) k) 0 : sProp 𝕄))
      ∗ bigSep Finset.univ (fun k : Fin 4 => (dutyTok ER (cmCell (nb b c) (rcv b) k) 0 true : sProp 𝕄))) := by
  unfold sendPre
  rw [bigSep_sep', bigSep_sep']

omit [FloatOps F] in
theorem rcvs_eq (b : Bool) (c : Dev nD) : (bigSep Finset.univ (rcvPre b c) : sProp 𝕄)
    = iprop(bigSep Finset.univ (fun k : Fin 4 => (cred (tallyAt (cmCell c (rcv b) k) () N) : sProp 𝕄)) ∗ bigSep Finset.univ (fun k : Fin 4 => (atPos ER (cmCell c (rcv b) k) 0 ∅ 0 : sProp 𝕄))) := by
  unfold rcvPre
  rw [bigSep_sep']

/-- What the region starts with, as the body takes it; -/
theorem enter (c : Dev nD) (f : outM.view.ty.Contents (Elt F)) :
    iprop(Xk m c ∗ scratch c ∗ ow c (O₀ c) ∗ whole otM c (otOf m c) ∗ whole woM c (woOf m c) ∗ whole outM c f)
      ⊢ iprop(∃ K, bodyPre (otOf m) (woOf m) K c) := by
  unfold Xk base scratch bodyPre
  simp only [sends_eq, rcvs_eq]
  rw [show (nbX c) = nb true c from rfl, show (nbY c) = nb false c from rfl, barPay_own, barPay_own]
  rw [cells_eq (fun a k => iprop(atPos ER (cmCell c a k) 0 ∅ 0 ∗ reached ER (cmCell c a k) 0))]
  simp only [bigSep_sep']
  iintro ⟨⟨%K, Hctx, ⟨⟨B1, B2⟩, ⟨B3, B4⟩, ⟨B5, B6⟩, ⟨T0, T1⟩, ⟨T2, T3⟩, ⟨C1, C3⟩⟩, ⟨A0, R0⟩, ⟨A1, R1⟩, ⟨A2, R2⟩, ⟨A3, R3⟩⟩,
    ⟨Hwc, ⟨%fxs, Hxs⟩, ⟨%fxr, Hxr⟩, ⟨%fys, Hys⟩, ⟨%fyr, Hyr⟩⟩, HO, Hot, Hwo, Hout⟩
  iexists K
  ihave Hxs := (chunks_split xsM (View.set_whole _) c fxs) $$ Hxs
  ihave Hxr := (chunks_split xrM (View.set_whole _) c fxr) $$ Hxr
  ihave Hys := (chunks_split ysM (View.set_whole _) c fys) $$ Hys
  ihave Hyr := (chunks_split yrM (View.set_whole _) c fyr) $$ Hyr
  isplitl [Hctx]; · iexact Hctx
  isplitl [HO]; · iexact HO
  isplitl [B1 B2 Hxr R1]
  · isplitl [B1]; · iexact B1
    isplitl [B2]; · iexact B2
    isplitl [Hxr]; · iexact Hxr
    iexact R1
  isplitl [B3 B4 Hyr R3]
  · isplitl [B3]; · iexact B3
    isplitl [B4]; · iexact B4
    isplitl [Hyr]; · iexact Hyr
    iexact R3
  isplitl [B5 B6]
  · isplitl [B5]; · iexact B5
    iexact B6
  isplitl [Hxs]; · iexact Hxs
  isplitl [Hys]; · iexact Hys
  isplitl [T0 R0 T1]
  · isplitl [T0]; · iexact T0
    isplitl [R0]; · iexact R0
    iexact T1
  isplitl [T2 R2 T3]
  · isplitl [T2]; · iexact T2
    isplitl [R2]; · iexact R2
    iexact T3
  isplitl [C1 A1]
  · isplitl [C1]; · iexact C1
    iexact A1
  isplitl [C3 A3]
  · isplitl [C3]; · iexact C3
    iexact A3
  isplitl [A0]; · iexact A0
  isplitl [A2]; · iexact A2
  isplitl [Hot]; · iexact Hot
  isplitl [Hwo]; · iexact Hwo
  isplitl [Hwc]; · iexact Hwc
  iexists f; iexact Hout

/-- and what the body leaves, as the region ends with it. -/
theorem leave (c : Dev nD) : bodyPost (otOf m) (woOf m) c
    ⊢ iprop((Yk c ∗ Pipeline.ownSems0 osem c ∗ scratch c) ∗ ow c 0 ∗ whole otM c (otOf m c) ∗ whole woM c (woOf m c) ∗ whole outM c (outOf m c)) := by
  unfold bodyPost scratch Yk
  rw [show (Pipeline.ownSems0 osem c : sProp 𝕄) = bigSep Finset.univ fun p : Fin 4 × Fin 4 => (semVal (cmCell c p.1 p.2) 0 : sProp 𝕄) from rfl,
    cells_eq (fun a k => semVal (cmCell c a k) 0)]
  simp only [bigSep_sep']
  iintro ⟨HO, Hb, ⟨Hxr, S1⟩, ⟨Hyr, S3⟩, ⟨Hxs, S0, Hys, S2⟩, Hot, Hwo, Hwc, Hout⟩
  ihave Hxs := (chunks_join xsM (View.set_whole _) c) $$ Hxs
  ihave Hxr := (chunks_join xrM (View.set_whole _) c) $$ Hxr
  ihave Hys := (chunks_join ysM (View.set_whole _) c) $$ Hys
  ihave Hyr := (chunks_join yrM (View.set_whole _) c) $$ Hyr
  isplitl [Hb S0 S1 S2 S3 Hwc Hxs Hxr Hys Hyr]
  · isplitl [Hb]; · iexact Hb
    isplitl [S0 S1 S2 S3]
    · isplitl [S0]; · iexact S0
      isplitl [S1]; · iexact S1
      isplitl [S2]; · iexact S2
      iexact S3
    isplitl [Hwc]; · iexact Hwc
    isplitl [Hxs]; · iexact Hxs
    isplitl [Hxr]; · iexact Hxr
    isplitl [Hys]; · iexact Hys
    iexact Hyr
  isplitl [HO]; · iexact HO
  isplitl [Hot]; · iexact Hot
  isplitl [Hwo]; · iexact Hwo
  iexact Hout

/-- The body's obligation at the one point. -/
theorem body (c : Dev nD) : BodyObligation (dat0 (F := F) m c) defs₀ 𝒱₀ () Set.univ := fun t => by
  rw [fin_N0 t]
  rw [bigSep_W0, bigSep_W0]
  rw [inv_first, inv_last]
  simp only [before0, before1]
  show iprop((Xk m c ∗ scratch c ∗ ∃ r, prngReg c r) ∗ (dat0 m c).owesAt () t0_0.castSucc
      ∗ (∃ d, owns (c : Thread nD τ) otM fullShare (otOf m c)) ∗ (∃ d, owns (c : Thread nD τ) woM fullShare (woOf m c))
      ∗ (∃ d, owns (c : Thread nD τ) outM fullShare ((dat0 m c).before 2 t0_0 d)))
    ⊢ run c (bodyAt0 t0_0) fun _ => iprop((Yk c ∗ Pipeline.ownSems0 osem c ∗ scratch c ∗ ∃ r, prngReg c r) ∗ (dat0 m c).owesAt () t0_0.succ
      ∗ owns (c : Thread nD τ) otM fullShare (otOf m c) ∗ owns (c : Thread nD τ) woM fullShare (woOf m c) ∗ owns (c : Thread nD τ) outM fullShare (outOf m c))
  rw [body_eq]
  simp only [owns_whole]
  iintro ⟨⟨HX, Hs, Hp⟩, HO, ⟨%d0, %f0, %e0, Hot⟩, ⟨%d1, %f1, %e1, Hwo⟩, ⟨%d2, %f2, %e2, Hout⟩⟩
  subst e0 e1
  ihave HO := (owes_before m c) $$ HO
  ihave H := (enter m c f2) $$ [HX Hs HO Hot Hwo Hout]
  · isplitl [HX]; · iexact HX
    isplitl [Hs]; · iexact Hs
    isplitl [HO]; · iexact HO
    isplitl [Hot]; · iexact Hot
    isplitl [Hwo]; · iexact Hwo
    iexact Hout
  icases H with ⟨%K, H⟩
  iapply (run_plan (otOf m) (woOf m) c K) $$ [-]
  isplitl [H]; · iexact H
  iintro H
  ihave H := (leave m c) $$ H
  icases H with ⟨⟨HY, HS, Hs⟩, HO, Hot, Hwo, Hout⟩
  isplitl [HY HS Hs Hp]
  · isplitl [HY]; · iexact HY
    isplitl [HS]; · iexact HS
    isplitl [Hs]; · iexact Hs
    iexact Hp
  isplitl [HO]; · iapply (owes_after m c) $$ HO
  isplitl [Hot]
  · iexists _; isplitr; · (ipureintro; rfl)
    iexact Hot
  isplitl [Hwo]
  · iexists _; isplitr; · (ipureintro; rfl)
    iexact Hwo
  iexists _; isplitr; · (ipureintro; rfl)
  iexact Hout

end Cert.KernelIdeal.Region

end
-- ==== Proof.Launch.lean ====
/- The run of @main: its host operations, then the region, on all devices from one launch. -/
module

public import proofs.«01_k».proof.Proof.Region
public import Idealize.ShloMosaic.Lib.Quiescent

@[expose] public section

set_option maxRecDepth 16384

noncomputable section

namespace Cert.KernelIdeal.Launch

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.KernelIdeal.Plan Cert.KernelIdeal.Proto Cert.KernelIdeal.Steps Cert.KernelIdeal.Body Cert.KernelIdeal.Region

variable {F : FTy → Type} [FloatOps F]

local notation "𝕄" => MT nD τ sig Unit (Elt F) ℕ UU ℕ

variable (m : (ℓ : Loc nD τ sig) → Buf (Elt F) ℓ) (ρ : Dev nD → PrngReg)

theorem together {I : Type} (S : Finset I) (Φ Ψ : I → sProp 𝕄) : iprop(bigSep S Φ ∗ bigSep S Ψ) ⊢ bigSep S fun i => iprop(Φ i ∗ Ψ i) :=
  by
  rw [bigSep_sep']

/-! ## The segments -/

abbrev adm : (p : Fin 1) → (pcfgs (F := F) p).Adm := fun p => (cfgs p).toPCfg_adm

def pdats : (p : Fin 1) → (c : Dev nD) → Dat τ (Elt F) Unit ℕ UU ℕ (Pipeline.pin (pcfgs (F := F)) adm p) c
  | 0 => dat0 m

/-- The buffers outside the region: as launched, as the region finds them, and as it leaves them. -/
def Vl (c : Dev nD) : Valuation τ sig (Elt F) := fun b => m (c, b)
def Vin (c : Dev nD) : Valuation τ sig (Elt F) := StableHlo.after hostOps0 (Vl m c)
def Vout (c : Dev nD) : Valuation τ sig (Elt F) := Function.update (Vin m c) (Proc.devRef .tc main_v3) (outOf m c)

theorem Vin_eq (c : Dev nD) (b : Ref sig .tc) : Vin m c (Proc.devRef .tc b) = V m c b := rfl
theorem Vout_self (c : Dev nD) : Vout m c (Proc.devRef .tc main_v3) = outOf m c := Function.update_self _ _ _
theorem Vout_ne (c : Dev nD) {b : DevRef τ sig} (h : b ≠ Proc.devRef .tc main_v3) : Vout m c b = Vin m c b := Function.update_of_ne h _ _

abbrev bufs : Finset (DevRef τ sig) := Pipeline.ucRefs τ sig
abbrev wins : Finset (DevRef τ sig) := Pipeline.arrRefs (τ := τ) spec0

theorem wins_sub : wins ⊆ bufs := Pipeline.arrRefs_sub_ucRefs spec0 (by decide)

theorem win_mem (w : Fin 3) : (Proc.devRef .tc (Pipeline.arrRef spec0 w) : DevRef τ sig) ∈ wins :=
  Finset.mem_map_of_mem _ (Finset.mem_image_of_mem _ (Finset.mem_univ w))

/-- What rides beside the buffers up to the region. -/
def beside (c : Dev nD) : sProp 𝕄 := iprop(Tk m c ∗ (∃ r, prngReg c r) ∗ ow c (O₀ c))

/-- The host operations. -/
def seg0 : Pipeline.HostSeg (Name := ℕ) (U := UU) (pcfgs (F := F)) defs₀ 𝒱₀ L lv :=
  Pipeline.HostSeg.ofOps _ _ _ _ _ bufs hostOps0
    (fun op h => Pipeline.sub_ucRefs op (List.forall_iff_forall_mem.mp hostOps0_sub op h))
    (fun op h => List.forall_iff_forall_mem.mp hostOps0_fresh op h) (Vl m) (beside m)

/-- Every transfer cell opens when the region begins. -/
theorem opens (c : Dev nD) : iprop(Tk m c ∗ Pipeline.ownSems0 osem c ∗ levAts L lv) ⊢ (|={Set.univ}=> Xk m c : sProp 𝕄) := by
  have each (K : GSem nD τ sig → ℕ) (p : Fin 4 × Fin 4) :
      iprop(invs (otOf m) (woOf m) K ∗ (openTok ER (cmCell c p.1 p.2) ∗ semVal (cmCell c p.1 p.2) 0))
        ⊢ (|={Set.univ}=> (atPos ER (cmCell c p.1 p.2) 0 ∅ 0 ∗ reached ER (cmCell c p.1 p.2) 0) : sProp 𝕄) := by
    iintro ⟨#HI, Ho, Hv⟩
    iapply (Rounds.cell_open ER (Rd (otOf m) (woOf m)) (g := cmCell c p.1 p.2) (Set.mem_univ (K (cmCell c p.1 p.2))))
    isplitr; · iapply (inv_cm (otOf m) (woOf m) K c p.1 p.2); iexact HI
    isplitl [Ho] <;> iassumption
  have all (K : GSem nD τ sig → ℕ) :
      iprop(invs (otOf m) (woOf m) K ∗ bigSep Finset.univ fun p : Fin 4 × Fin 4 => iprop(openTok ER (cmCell c p.1 p.2) ∗ semVal (cmCell c p.1 p.2) 0))
        ⊢ (|={Set.univ}=> bigSep Finset.univ fun p : Fin 4 × Fin 4 => iprop(atPos ER (cmCell c p.1 p.2) 0 ∅ 0 ∗ reached ER (cmCell c p.1 p.2) 0) : sProp 𝕄) :=
    (bigSep_with_persistent (R := invs (otOf m) (woOf m) K) fun p _ => each K p).trans (bigSep_fupd _ _)
  rw [show (Pipeline.ownSems0 osem c : sProp 𝕄) = bigSep Finset.univ fun p : Fin 4 × Fin 4 => (semVal (cmCell c p.1 p.2) 0 : sProp 𝕄) from rfl]
  unfold Tk Xk Body.ctx
  iintro ⟨⟨%K, #HI, Hb, Ho⟩, Hv, #HL⟩
  imod (all K) $$ [Ho Hv] with H
  · isplitr; · iexact HI
    iapply (together _ _ _)
    isplitl [Ho] <;> iassumption
  imodintro
  iexists K
  isplitr
  · isplitr; · iexact HI
    iexact HL
  isplitl [Hb]; · iexact Hb
  iexact H

theorem own_facts : Pipeline.OwnSemFacts spec0 osem := by decide +kernel

theorem held_none (c : Dev nD) (W : Valuation τ sig (Elt F)) : (StableHlo.held (c.tc : Thread nD τ) ∅ W : sProp 𝕄) = BI.emp := by
  unfold StableHlo.held
  exact BI.bigSep_empty

theorem in_eq (c : Dev nD) : iprop(Pipeline.scopedRest (Pipeline.pin (pcfgs (F := F)) adm 0).spec c ∗ (∃ r, prngReg c r) ∗ StableHlo.held (c.tc : Thread nD τ) ∅ (Vin m c) ∗ Xk m c)
    ⊢ (pdats m 0 c).Φ 0 := by
  rw [show (pdats m 0 c).Φ 0 = iprop(Xk m c ∗ scratch c ∗ ∃ r, prngReg c r) from rfl, held_none,
    show (Pipeline.scopedRest (Pipeline.pin (pcfgs (F := F)) adm 0).spec c : sProp 𝕄) = scratch c from scratch_eq c]
  iintro ⟨Hs, Hp, -, HX⟩
  isplitl [HX]; · iexact HX
  isplitl [Hs] <;> iassumption

theorem last_eq (c : Dev nD) : (pdats m 0 c).Φ (Fin.last (Pipeline.pin (pcfgs (F := F)) adm 0).N)
    = iprop(Yk c ∗ Pipeline.ownSems0 osem c ∗ scratch c ∗ ∃ r, prngReg c r) := by
  show stateAt m c (Fin.last grid0.N).val = _
  rw [Fin.val_last, N_0]; rfl

theorem owed_end (c : Dev nD) : (pdats (F := F) m 0 c).owed (Fin.last (Pipeline.pin (pcfgs (F := F)) adm 0).N) = 0 := by
  show owedAt c (Fin.last grid0.N).val = _
  rw [Fin.val_last, N_0]; rfl

theorem out_eq (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) ∅ (Vout m c)
      ∗ Pipeline.ownSems0 osem c ∗ Yk c) := by
  rw [last_eq, held_none, show (Pipeline.scopedRest (Pipeline.pin (pcfgs (F := F)) adm 0).spec c : sProp 𝕄) = scratch c from scratch_eq c]
  iintro ⟨HY, HS, Hs, Hp⟩
  isplitl [Hs]; · iexact Hs
  isplitl [Hp]; · iexact Hp
  isplitr; · iempintro
  isplitl [HS] <;> iassumption

/-- Whatever is owed before a point lies above the staging waits. -/
theorem owed_lv (c : Dev nD) (n : ℕ) (g : GSem nD τ sig) (i : Unit) (h : 0 < owedAt c n g i) : i ∈ L g ∧ 0 < lv g i :=
  match n, h with
  | 0, h => O₀_lv h
  | _ + 1, h => absurd h (Nat.lt_irrefl 0)

theorem stage_lv : ∀ (w : Fin 3) (s : Fin (spec0 w).nbuf), ((spec0 w).sem s).val < 3 := by decide

theorem arr_end (c : Dev nD) (w : Fin 3) : (dat0 m c).arrAt w grid0.N = Vout m c (Proc.devRef .tc (Pipeline.arrRef spec0 w)) :=
  match w with
  | ⟨0, _⟩ => ((dat0 m c).arrAt_in 0 rfl _).trans (Vout_ne m c (b := Proc.devRef .tc main_v2) (StableHlo.devRef_ne_of_ne (by decide))).symm
  | ⟨1, _⟩ => ((dat0 m c).arrAt_in 1 rfl _).trans (Vout_ne m c (b := Proc.devRef .tc main_arg1) (StableHlo.devRef_ne_of_ne (by decide))).symm
  | ⟨2, _⟩ => by
    refine Eq.trans ?_ (Vout_self m c).symm
    rw [N_0]
    unfold Dat.arrAt
    rw [dif_pos (show 0 < cfg0.N from t0_0.isLt), if_pos (flush0_2 _)]
    exact blk_write2 _ _ _
  | ⟨_ + 3, h⟩ => absurd h (Nat.not_lt.2 (Nat.le_add_left _ _))

theorem share_full (c : Dev nD) (w : Fin 3) : (dat0 m c).share w = fullShare := by
  unfold Dat.share
  split <;> rfl

set_option backward.isDefEq.respectTransparency.types false in
/-- The region. -/
def reg0 : Pipeline.RegionSeg (pcfgs (F := F)) adm (pdats m) () defs₀ 𝒱₀ L lv 0 :=
  Pipeline.RegionSeg.ofTalk (pcfgs (F := F)) adm (pdats m) () defs₀ 𝒱₀ L lv 0 osem own_facts
    ∅ (bufs \ wins) (Finset.empty_subset _) launch0.toP rfl (fun c => (body m c).loose)
    (fun _ => 0) O₀ (fun c => (zero_add (O₀ c)).symm) (owed_end m) (fun _ => rfl) (fun c w => share_full m c w)
    (Vin m) (Vout m)
    (fun c b hb => Vout_ne m c fun e => (Finset.mem_sdiff.mp (Finset.mem_sdiff.mp hb).1).2 (e ▸ win_mem 2))
    (Tk m) Yk (Xk m) Yk (opens m) (in_eq m) (out_eq m)
    (fun c => by iintro H; imodintro; iexact H)
    (fun _ => 0)
    ⟨fun c w s => mem_L c _ (), fun c w s => Nat.le_of_eq (if_pos (stage_lv w s)), fun c t g i h => owed_lv c t.val g i h⟩
    (fun _ => iprop(emp))
    (fun _ _ => rfl) (fun c w => arr_end m c w)

theorem reg0_pre (c : Dev nD) : iprop(StableHlo.held (c : Thread nD τ) bufs (Vin m c) ∗ beside m c) ⊢ (reg0 m).pre c := by
  show _ ⊢ iprop(StableHlo.held (c.tc : Thread nD τ) wins (Vin m c) ∗ (∃ r, prngReg c r)
    ∗ (StableHlo.held (c.tc : Thread nD τ) (bufs \ wins) (Vin m c) ∗ emp) ∗ Tk m c ∗ ∃ Wd, owes (c : Thread nD τ) (0 + O₀ c) Wd)
  rw [StableHlo.held_sub_split (c.tc : Thread nD τ) wins_sub, zero_add]
  unfold beside ow
  iintro ⟨⟨Hw, Hr⟩, HT, Hp, HO⟩
  isplitl [Hw]; · iexact Hw
  isplitl [Hp]; · iexact Hp
  isplitl [Hr]
  · isplitl [Hr]; · iexact Hr
    iempintro
  isplitl [HT] <;> iassumption

theorem reg0_post (c : Dev nD) : (reg0 m).post c
    ⊢ iprop((StableHlo.held (c : Thread nD τ) bufs (Vout m c) ∗ semVal (barCell c) 0) ∗ ∃ W, owes (c : Thread nD τ) (0 : CellTallies nD τ sig Unit) W) := by
  show iprop(StableHlo.held (c.tc : Thread nD τ) wins (Vout m c) ∗ (∃ r, prngReg c r)
    ∗ (StableHlo.held (c.tc : Thread nD τ) (bufs \ wins) (Vout m c) ∗ emp) ∗ Yk c ∗ ∃ Wd, owes (c : Thread nD τ) (0 : CellTallies nD τ sig Unit) Wd) ⊢ _
  rw [StableHlo.held_sub_split (c.tc : Thread nD τ) wins_sub]
  unfold Yk
  iintro ⟨Hw, -, ⟨Hr, -⟩, Hb, HO⟩
  isplitr [HO]
  · isplitr [Hb]
    · isplitl [Hw] <;> iassumption
    iexact Hb
  iexact HO

/-- @main as its two segments. -/
def segs : List (Pipeline.Seg (pcfgs (F := F)) adm (pdats m) () defs₀ 𝒱₀ L lv) := [.host (seg0 m), .region (reg0 m)]

theorem main_eq (c : Dev nD) : main (F := F) c = Pipeline.Seg.run (segs m) := main_segs adm (pdats m) () 𝒱₀ L lv (seg0 m) (reg0 m) rfl c

/-! ## The launch's resources -/

theorem cells_disj : Disjoint (barCells : Finset (GSem nD τ sig)) cmCells := by
  rw [Finset.disjoint_left]
  intro g h₁ h₂
  obtain ⟨c, -, rfl⟩ := Finset.mem_map.mp h₁
  obtain ⟨p, -, h⟩ := Finset.mem_map.mp h₂
  have h' : (SemLoc.dma (cmS p.2.1 p.2.2) : SemLoc sig) = .reg barS := congrArg Prod.snd h
  cases h'

/-- The tokens: both neighbours' of every barrier cell, one of every transfer cell. -/
def barTok : Dev nD × Bool ↪ GSem nD τ sig × ℕ × Bool :=
  ⟨fun p => (barCell p.1, 0, p.2), fun _ _ h => Prod.ext (congrArg (fun t : GSem nD τ sig × ℕ × Bool => t.1.1.1) h) (congrArg (fun t : GSem nD τ sig × ℕ × Bool => t.2.2) h)⟩
def cmTok : Dev nD × Fin 4 × Fin 4 ↪ GSem nD τ sig × ℕ × Bool :=
  ⟨fun p => (cmEmb p, 0, true), fun _ _ h => cmEmb.injective (congrArg Prod.fst h)⟩
def toks : Finset (GSem nD τ sig × ℕ × Bool) := Finset.univ.map barTok ∪ Finset.univ.map cmTok

theorem toks_disj : Disjoint (Finset.univ.map barTok) (Finset.univ.map cmTok) := by
  rw [Finset.disjoint_left]
  intro g h₁ h₂
  obtain ⟨c, -, rfl⟩ := Finset.mem_map.mp h₁
  obtain ⟨p, -, h⟩ := Finset.mem_map.mp h₂
  have h' : (SemLoc.dma (cmS p.2.1 p.2.2) : SemLoc sig) = .reg barS := congrArg (fun t : GSem nD τ sig × ℕ × Bool => t.1.2) h
  cases h'

/-- The tokens device `c` is dealt: its neighbours' barrier tokens, and those of its own sends and their arrivals. -/
def dealt (c : Dev nD) : sProp 𝕄 :=
  iprop((dutyTok ER (barCell (nbX c)) 0 true ∗ dutyTok ER (barCell (nbY c)) 0 false)
    ∗ (bigSep Finset.univ (fun k : Fin 4 => (dutyTok ER (cmCell c 0 k) 0 true : sProp 𝕄)) ∗ bigSep Finset.univ (fun k : Fin 4 => (dutyTok ER (cmCell (nbX c) 1 k) 0 true : sProp 𝕄)))
    ∗ (bigSep Finset.univ (fun k : Fin 4 => (dutyTok ER (cmCell c 2 k) 0 true : sProp 𝕄)) ∗ bigSep Finset.univ (fun k : Fin 4 => (dutyTok ER (cmCell (nbY c) 3 k) 0 true : sProp 𝕄))))

theorem bar_toks : (bigSep (Finset.univ.map barTok) fun x => (dutyTok ER x.1 x.2.1 x.2.2 : sProp 𝕄))
    = iprop((bigSep Finset.univ fun c : Dev nD => (dutyTok ER (barCell c) 0 true : sProp 𝕄)) ∗ (bigSep Finset.univ fun c : Dev nD => (dutyTok ER (barCell c) 0 false : sProp 𝕄))) := by
  rw [bigSep_map, bigSep_univ_prod, ← bigSep_sep']
  refine bigSep_congr fun c _ => ?_
  rw [bigSep_univ_eq_bigSepL [true, false] (by decide) (by decide), bigSepL_cons_cons, bigSepL_singleton]
  rfl

theorem cm_toks : (bigSep (Finset.univ.map cmTok) fun x => (dutyTok ER x.1 x.2.1 x.2.2 : sProp 𝕄))
    = bigSep Finset.univ fun c : Dev nD => iprop(bigSep Finset.univ (fun k : Fin 4 => (dutyTok ER (cmCell c 0 k) 0 true : sProp 𝕄))
      ∗ bigSep Finset.univ (fun k : Fin 4 => (dutyTok ER (cmCell c 1 k) 0 true : sProp 𝕄))
      ∗ bigSep Finset.univ (fun k : Fin 4 => (dutyTok ER (cmCell c 2 k) 0 true : sProp 𝕄))
      ∗ bigSep Finset.univ (fun k : Fin 4 => (dutyTok ER (cmCell c 3 k) 0 true : sProp 𝕄))) := by
  rw [bigSep_map, bigSep_univ_prod]
  exact bigSep_congr fun c _ => cells_eq (fun a k => dutyTok ER (cmCell c a k) 0 true)

/-- Handing every token to the device that pays it. -/
theorem deal : (bigSep toks fun x => (dutyTok ER x.1 x.2.1 x.2.2 : sProp 𝕄)) ⊢ bigSep Finset.univ fun c : Dev nD => (dealt c : sProp 𝕄) := by
  unfold toks dealt
  rw [show (bigSep (Finset.univ.map barTok ∪ Finset.univ.map cmTok) fun x => (dutyTok ER x.1 x.2.1 x.2.2 : sProp 𝕄))
    = iprop((bigSep (Finset.univ.map barTok) fun x => (dutyTok ER x.1 x.2.1 x.2.2 : sProp 𝕄)) ∗ (bigSep (Finset.univ.map cmTok) fun x => (dutyTok ER x.1 x.2.1 x.2.2 : sProp 𝕄)))
    from bigSep_union toks_disj, bar_toks, cm_toks]
  simp only [bigSep_sep']
  rw [bigSep_univ_equiv (swap true) (fun c : Dev nD => (dutyTok ER (barCell c) 0 true : sProp 𝕄)),
    bigSep_univ_equiv (swap false) (fun c : Dev nD => (dutyTok ER (barCell c) 0 false : sProp 𝕄)),
    bigSep_univ_equiv (swap true) (fun c : Dev nD => bigSep Finset.univ (fun k : Fin 4 => (dutyTok ER (cmCell c 1 k) 0 true : sProp 𝕄))),
    bigSep_univ_equiv (swap false) (fun c : Dev nD => bigSep Finset.univ (fun k : Fin 4 => (dutyTok ER (cmCell c 3 k) 0 true : sProp 𝕄)))]
  iintro ⟨⟨Hb1, Hb2⟩, H0, H1, H2, H3⟩
  isplitl [Hb1 Hb2]; · isplitl [Hb1]; · iexact Hb1
                       iexact Hb2
  isplitl [H0 H1]; · isplitl [H0]; · iexact H0
                     iexact H1
  isplitl [H2]; · iexact H2
  iexact H3

/-! ### The launch's credit -/

/-- If every device owes `n` to its partner under `σ`, then each may claim `n`. -/
theorem credit_of (σ : Dev nD → Dev nD) (hσ : ∀ c, σ (σ c) = c) (sm : SemLoc sig) (n : ℕ) (c : Dev nD) :
    (Pipeline.launchCred (fun d => tallyAt ((σ d : Thread nD τ), sm) () n) c : sProp 𝕄) ⊢ cred (tallyAt ((c : Thread nD τ), sm) () n) := by
  have e : tallyOn ((c : Thread nD τ), sm) (launchCredit (Pipeline.owing fun d => tallyAt ((σ d : Thread nD τ), sm) () n) 0 ((c : Thread nD τ), sm))
      = (tallyAt ((c : Thread nD τ), sm) () n : CellTallies nD τ sig Unit) := by
    unfold tallyAt
    refine congrArg _ (Finsupp.ext fun u => ?_)
    cases u
    rw [Pipeline.launchCredit_owing, Finsupp.single_eq_same, Finset.sum_eq_single (σ c)]
    · show (tallyAt ((σ (σ c) : Thread nD τ), sm) () n : CellTallies nD τ sig Unit) ((c : Thread nD τ), sm) () = n
      rw [hσ, tallyAt_apply, if_pos ⟨rfl, rfl⟩]
    · intro d _ hd
      show (tallyAt ((σ d : Thread nD τ), sm) () n : CellTallies nD τ sig Unit) ((c : Thread nD τ), sm) () = 0
      rw [tallyAt_apply, if_neg]
      rintro ⟨h, -⟩
      have h' : c = σ d := congrArg (fun g : GSem nD τ sig => g.1.1) h
      exact hd (by rw [h', hσ])
    · intro h; exact absurd (Finset.mem_univ _) h
  unfold Pipeline.launchCred
  refine (bigSep_elim (Finset.mem_univ sm)).trans ?_
  rw [e]
  exact BI.Entails.refl _

theorem credit_owing (b : Bool) (c : Dev nD) :
    (Pipeline.launchCred (fun d => owing b d 0) c : sProp 𝕄) ⊢ bigSep Finset.univ fun k : Fin 4 => (cred (tallyAt (cmCell c (rcv b) k) () N) : sProp 𝕄) := by
  unfold owing
  rw [Pipeline.launchCred_sum, show (Finset.univ.filter fun k : Fin 4 => 0 ≤ k.val) = Finset.univ by decide]
  exact bigSep_mono fun k _ => credit_of (nb b) (nb_nb b) (.dma (cmS (rcv b) k)) N c

theorem credits (c : Dev nD) : (Pipeline.launchCred O₀ c : sProp 𝕄)
    ⊢ iprop(cred (tallyAt (barCell c) () 2) ∗ bigSep Finset.univ (fun k : Fin 4 => (cred (tallyAt (cmCell c 1 k) () N) : sProp 𝕄))
      ∗ bigSep Finset.univ (fun k : Fin 4 => (cred (tallyAt (cmCell c 3 k) () N) : sProp 𝕄))) := by
  have e : (Pipeline.launchCred O₀ c : sProp 𝕄) = iprop(((Pipeline.launchCred (fun d => owing false d 0) c ∗ Pipeline.launchCred (fun d => owing true d 0) c)
      ∗ Pipeline.launchCred (fun d => tallyAt (barCell (nbY d)) () 1) c) ∗ Pipeline.launchCred (fun d => tallyAt (barCell (nbX d)) () 1) c) := by
    rw [← Pipeline.launchCred_add, ← Pipeline.launchCred_add, ← Pipeline.launchCred_add]; rfl
  have two : (tallyAt (barCell c) () 2 : CellTallies nD τ sig Unit) = tallyAt (barCell c) () 1 + tallyAt (barCell c) () 1 := (tallyAt_add (barCell c) () 1 1).symm
  rw [e, two]
  iintro ⟨⟨⟨H3, H1⟩, HY⟩, HX⟩
  ihave H3 := (credit_owing (F := F) false c) $$ H3
  ihave H1 := (credit_owing (F := F) true c) $$ H1
  ihave HY := (credit_of (F := F) nbY nbY_nbY (.reg barS) 1 c) $$ HY
  ihave HX := (credit_of (F := F) nbX nbX_nbX (.reg barS) 1 c) $$ HX
  isplitl [HX HY]
  · iapply (cred_add _ _).2
    isplitl [HX] <;> iassumption
  isplitl [H1]; · iexact H1
  iexact H3

/-! ### The launch element -/

def u₀ : UU :=
  (initOf (Pipeline.cells (Pipeline.pin (pcfgs (F := F)) adm) cellOf_inj) (Pipeline.launchToks (Pipeline.pin (pcfgs (F := F)) adm) cellOf_inj),
    launchOf barCells cmCells toks)

/-- A resource given to device 0 alone, every other device given nothing. -/
def atZero (X : sProp 𝕄) (c : Dev nD) : sProp 𝕄 := if c = 0 then X else iprop(emp)

theorem atZero_all (X : sProp 𝕄) : bigSep Finset.univ (atZero X) = X := by
  rw [bigSep_univ_at _ (0 : Dev nD), bigSep_congr (s := Finset.univ.erase (0 : Dev nD)) (Ψ := fun _ => (BI.emp : sProp 𝕄))
    fun c hc => by unfold atZero; exact if_neg (Finset.ne_of_mem_erase hc), BI.bigSep_emp_const]
  unfold atZero; rw [if_pos rfl]
  exact BI.equiv_iff.mp sep_emp

/-- The protocol's element, whole until all devices' resources are made of it together. -/
def protoRes : Dev nD → sProp 𝕄 := atZero (BI.own (ER (launchOf barCells cmCells toks)))

/-- What every device may consult. -/
def records (κ : GSem nD τ sig → ℕ) : sProp 𝕄 := iprop(invs (otOf m) (woOf m) κ ∗ bigSep barCells fun g => reached ER g 0)

instance records_persistent (κ : GSem nD τ sig → ℕ) : BI.Persistent (records m κ) := by unfold records; infer_instance

theorem reached_at (c : Dev nD) : (bigSep barCells fun g => (reached ER g 0 : sProp 𝕄)) ⊢ reached ER (barCell c) 0 :=
  bigSep_elim (Finset.mem_map_of_mem barEmb (Finset.mem_univ c))

/-- What is device `c`'s alone, of the protocol; -/
def alone (c : Dev nD) : sProp 𝕄 :=
  iprop(atPos ER (barCell c) 0 ∅ 0 ∗ (bigSep Finset.univ fun p : Fin 4 × Fin 4 => openTok ER (cmCell c p.1 p.2)) ∗ dealt c)
/-- and of the rest. -/
def rest (c : Dev nD) : sProp 𝕄 :=
  iprop(StableHlo.held (c : Thread nD τ) bufs (Vl m c)
    ∗ (cred (tallyAt (barCell c) () 2) ∗ bigSep Finset.univ (fun k : Fin 4 => (cred (tallyAt (cmCell c 1 k) () N) : sProp 𝕄))
      ∗ bigSep Finset.univ (fun k : Fin 4 => (cred (tallyAt (cmCell c 3 k) () N) : sProp 𝕄)))
    ∗ ow c (O₀ c) ∗ ∃ r, prngReg c r)

abbrev T₀ (c : Dev nD) : sProp 𝕄 := iprop(StableHlo.held (c : Thread nD τ) bufs (Vl m c) ∗ beside m c)
abbrev Tₙ (c : Dev nD) : sProp 𝕄 := iprop(StableHlo.held (c : Thread nD τ) bufs (Vout m c) ∗ semVal (barCell c) 0)

theorem T₀_intro (κ : GSem nD τ sig → ℕ) (c : Dev nD) : iprop(records m κ ∗ (alone c ∗ rest m c)) ⊢ T₀ m c := by
  unfold records alone rest T₀ beside Tk base dealt
  iintro ⟨⟨#HI, #HR⟩, ⟨HaB, Ho, ⟨B1, B2⟩, ⟨T0, T1⟩, ⟨T2, T3⟩⟩, Hh, ⟨CB, C1, C3⟩, HO, Hp⟩
  isplitl [Hh]; · iexact Hh
  isplitr [HO Hp]
  · iexists κ
    isplitr; · iexact HI
    isplitr [Ho]
    · isplitl [B1]
      · isplitl [B1]; · iexact B1
        iapply (reached_at (F := F) (nbX c)); iexact HR
      isplitl [B2]
      · isplitl [B2]; · iexact B2
        iapply (reached_at (F := F) (nbY c)); iexact HR
      isplitl [CB HaB]
      · isplitl [CB] <;> iassumption
      isplitl [T0 T1]
      · isplitl [T0]; · iexact T0
        iexact T1
      isplitl [T2 T3]
      · isplitl [T2]; · iexact T2
        iexact T3
      isplitl [C1]; · iexact C1
      iexact C3
    iexact Ho
  isplitl [Hp] <;> iassumption

theorem unscopedSems (c : Dev nD) : (unscopedSems0 c : sProp 𝕄) = semVal (barCell c) 0 := by
  unfold unscopedSems0
  rw [show (Finset.univ.filter fun sm : SemLoc sig => ¬ sm.isScoped .tc) = {SemLoc.reg barS} from by decide +kernel, BI.bigSep_singleton]

theorem unscoped_eq : ∀ sm : SemLoc sig, sm.isScoped .tc = false → sm = .reg barS := by decide +kernel

/-- The first states of all devices, made together. -/
theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ protoRes c)) ∗ levAts L lv)
      ⊢ (|={Set.univ}=> bigSep Finset.univ (T₀ m) : sProp 𝕄) := by
  have each (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ protoRes c)
      ⊢ (iprop(rest m c ∗ (semVal (barCell c) 0 ∗ protoRes c)) : sProp 𝕄) := by
    rw [show unscopedBufs c (fun b => m ((c : Thread nD τ).loc b)) = StableHlo.held (c : Thread nD τ) bufs (Vl m c) from Pipeline.unscopedBufs_held c (Vl m c),
      unscopedSems]
    unfold rest ow
    iintro ⟨Hh, Hs, HO, HC, Hp, HG⟩
    ihave HC := (credits (F := F) c) $$ HC
    isplitl [Hh HC HO Hp]
    · isplitl [Hh]; · iexact Hh
      isplitl [HC]; · iexact HC
      isplitl [HO]
      · iexists ∅; iexact HO
      iexists (ρ c); iexact Hp
    isplitl [Hs] <;> iassumption
  have hall : (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ protoRes c))
      ⊢ (iprop((bigSep Finset.univ fun c : Dev nD => rest m c) ∗ (bigSep Finset.univ fun c : Dev nD => semVal (barCell c) 0)
        ∗ (bigSep Finset.univ fun c : Dev nD => protoRes c)) : sProp 𝕄) := by
    rw [← bigSep_sep', ← bigSep_sep']
    exact bigSep_mono fun c _ => each c
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hop : bigSep cmCells (fun g => (openTok ER g : sProp 𝕄))
      ⊢ bigSep Finset.univ (fun c : Dev nD => bigSep Finset.univ fun p : Fin 4 × Fin 4 => (openTok ER (cmCell c p.1 p.2) : sProp 𝕄)) :=
    Entails.of_eq (by rw [bigSep_map, bigSep_univ_prod]; rfl)
  iintro ⟨H, -⟩
  ihave H := hall $$ H
  icases H with ⟨HB, Hv, HG⟩
  ihave Hu := (show bigSep Finset.univ (protoRes (F := F)) ⊢ BI.own (ER (launchOf barCells cmCells toks)) from
    Entails.of_eq (atZero_all (F := F) (BI.own (ER (launchOf barCells cmCells toks))))) $$ HG
  imod (Rounds.fund_launch ER (Rd (otOf m) (woOf m)) cells_disj (fun g _ h => h) toks) $$ [Hv Hu] with ⟨%κ, -, #Hinv, #Hr, Hat, Hop, Htok⟩
  · isplitl [Hv]
    · iapply hv $$ Hv
    · iexact Hu
  imodintro
  iapply (bigSep_with_persistent (R := records m κ) (Φ := fun c => iprop(alone c ∗ rest m c)) fun c _ => T₀_intro m κ c)
  isplitr
  · unfold records Proto.invs
    isplitr; · iexact Hinv
    iexact Hr
  iapply (together _ _ _)
  isplitr [HB]
  · unfold alone
    iapply (together _ _ _); isplitl [Hat]; · iapply hat $$ Hat
    iapply (together _ _ _); isplitl [Hop]; · iapply hop $$ Hop
    iapply (deal (F := F)) $$ Htok
  · iexact HB

/-! ## The run -/

theorem held_bufs (c : Dev nD) (W : Valuation τ sig (Elt F)) : (StableHlo.held (c : Thread nD τ) bufs W : sProp 𝕄)
    = iprop((((c : Thread nD τ).loc main_arg0) ↦{fullShare} W (Proc.devRef .tc main_arg0)) ∗ (((c : Thread nD τ).loc main_arg1) ↦{fullShare} W (Proc.devRef .tc main_arg1))
      ∗ (((c : Thread nD τ).loc main_v1) ↦{fullShare} W (Proc.devRef .tc main_v1)) ∗ (((c : Thread nD τ).loc main_v2) ↦{fullShare} W (Proc.devRef .tc main_v2))
      ∗ (((c : Thread nD τ).loc main_v3) ↦{fullShare} W (Proc.devRef .tc main_v3))) := by
  unfold StableHlo.held
  rw [bigSep_eq_bigSepL_of_eq [Proc.devRef .tc main_arg0, Proc.devRef .tc main_arg1, Proc.devRef .tc main_v1, Proc.devRef .tc main_v2, Proc.devRef .tc main_v3] (by decide +kernel) (by decide +kernel)]
  rfl

theorem end_arg0 (c : Dev nD) : Vout m c (Proc.devRef .tc main_arg0) = m ((c : Thread nD τ).loc main_arg0) :=
  (Vout_ne m c (StableHlo.devRef_ne_of_ne (by decide))).trans (V_main_arg0 m c)
theorem end_arg1 (c : Dev nD) : Vout m c (Proc.devRef .tc main_arg1) = m ((c : Thread nD τ).loc main_arg1) :=
  (Vout_ne m c (StableHlo.devRef_ne_of_ne (by decide))).trans (V_main_arg1 m c)

set_option backward.isDefEq.respectTransparency.types false in
/-- Every run of @main from zero counters ends, with the arguments as they were, the result `outOf`, and every counter at zero. -/
theorem run_main : θ_run defs (onTc (τ := τ) (main (F := F))) ⟨m, fun _ => 0, ρ⟩
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_v3) = outOf m c) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := protoRes) (u₀ := u₀)
    (hu₀ := by
      unfold u₀ protoRes
      iintro Hu
      ihave H := (ownU_pair _ _) $$ Hu
      icases H with ⟨HP, HX⟩
      imodintro
      isplitl [HP]; · iexact HP
      rw [atZero_all]; iexact HX)
    (T₀ := T₀ m) (Tₙ := Tₙ m)
    (hch := ⟨fun c => .rfl, fun c => reg0_pre m c, fun c => reg0_post m c⟩)
    (hinit := init m ρ)
    (QY := fun c s => (s.mem ((c : Thread nD τ).loc main_arg0) = Vout m c (Proc.devRef .tc main_arg0)
        ∧ s.mem ((c : Thread nD τ).loc main_arg1) = Vout m c (Proc.devRef .tc main_arg1)
        ∧ s.mem ((c : Thread nD τ).loc main_v3) = Vout m c (Proc.devRef .tc main_v3)) ∧ s.sem (barCell c) = 0)
    (hfin := fun c s' => by
      dsimp only [Tₙ]; rw [held_bufs]
      iintro ⟨⟨⟨H0, H1, -, -, H3⟩, Hb⟩, HSI⟩
      icombine HSI H0 gives %h0
      icombine HSI H1 gives %h1
      icombine HSI H3 gives %h3
      icombine HSI Hb gives %hb
      imodintro
      isplitr
      · ipureintro
        exact ⟨⟨Buf.eq_of_forall_mem_univ h0, Buf.eq_of_forall_mem_univ h1, Buf.eq_of_forall_mem_univ h3⟩, by simpa using hb⟩
      iexact HSI)
    (hQ := fun s h hs => ⟨fun c => by
        obtain ⟨⟨h0, h1, h3⟩, -⟩ := h c
        exact ⟨h0.trans (end_arg0 m c), h1.trans (end_arg1 m c), h3.trans (Vout_self m c)⟩,
      sem_eq_zero hs fun c sm hsm => by
        obtain rfl := unscoped_eq sm hsm
        exact (h c).2⟩)

/-- The same with the result's value dropped. -/
theorem run_frame : θ_run defs (onTc (τ := τ) (main (F := F))) ⟨m, fun _ => 0, ρ⟩
    (fun r => (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)) ∧ r.2.sem = fun _ => 0) :=
  (θ_run defs _ _).mono (fun _ h => ⟨fun c => ⟨(h.1 c).1, (h.1 c).2.1⟩, h.2⟩) (run_main m ρ)

end Cert.KernelIdeal.Launch

end
-- ==== Proof.Values.lean ====
/- The kernel's result over the extended reals.

   A device holds half of the contraction's positions, so of every row of the product it can make a part: the sum over its own
   1024 positions (`part`). Entry `(b, i, n)` of a device's result is its own part and its x-neighbour's, taken at row
   `512 x + i`, where `x` is the device's first coordinate (`outF_eq`). -/
module

public import proofs.«01_k».proof.Proof.Body
public import Idealize.ShloMosaic.Lib.Pointwise
public import Idealize.ShloMosaic.Lib.WritesUnit

@[expose] public section

set_option maxRecDepth 16384

noncomputable section

namespace Cert.KernelIdeal.Values

open Idealize.ShloMosaic Idealize.ShloMosaic.TcCoe
open Cert.KernelIdeal.Gen Cert.KernelIdeal.Plan Cert.KernelIdeal.Proto Cert.KernelIdeal.Body

/-! ## The payloads at an index -/

/-- The product of transposed activations with weights: whole, and of half the columns. -/
theorem pay6_apply (a : Vec Ideal S1x1024x128 .bf16) (w : Vec Ideal S1024x2048 .bf16) (i : S1x128x2048.Idx) :
    k0_pay6 a w i = ∑ j : Fin 1024, a (ix3 0 j (i 1)) * w (ix2 j (i 2)) := by
  pointwise [k0_pay6]

theorem pay11_apply (a : Vec Ideal S1x1024x128 .bf16) (w : Vec Ideal S1024x2048 .bf16) (i : S1x128x2048.Idx) :
    k0_pay11 a w i = ∑ j : Fin 1024, a (ix3 0 j (i 1)) * w (ix2 j (i 2)) := by
  pointwise [k0_pay11]

theorem pay3_apply (a : Vec Ideal S1x1024x128 .bf16) (w : Vec Ideal S1024x1024 .bf16) (i : S1x128x1024.Idx) :
    k0_pay3 (k0_pay2 a) (k0_pay1 w) i = ∑ j : Fin 1024, a (ix3 0 j (i 1)) * w (ix2 j (i 2)) := by
  pointwise [k0_pay3, k0_pay2, k0_pay1]

theorem pay5_apply (a : Vec Ideal S1x1024x128 .bf16) (w : Vec Ideal S1024x1024 .bf16) (i : S1x128x1024.Idx) :
    k0_pay5 (k0_pay2 a) (k0_pay4 w) i = ∑ j : Fin 1024, a (ix3 0 j (i 1)) * w (ix2 j (i 2)) := by
  pointwise [k0_pay5, k0_pay2, k0_pay4]

/-- The sums of two products, as kept and as sent, and what is taken of it. -/
theorem pay21_apply (p : Vec Ideal S1x128x2048 .f32) (q : Vec Ideal S1x128x2048 .bf16) (i : S1x128x2048.Idx) :
    k0_pay21 p q i = p i + q i := by
  pointwise [k0_pay21, k0_pay19]

theorem pay20_apply (p : Vec Ideal S1x128x2048 .f32) (q : Vec Ideal S1x128x2048 .bf16) (i : S1x128x2048.Idx) :
    k0_pay20 p q i = p i + q i := by
  pointwise [k0_pay20, k0_pay19]

theorem pay30_apply (p : Vec Ideal S1x128x2048 .bf16) (i : S1x128x2048.Idx) : k0_pay30 p i = p i := by
  pointwise [k0_pay30]

theorem pay1_apply (w : Vec Ideal S1024x1024 .bf16) (i : S1024x1024.Idx) : k0_pay1 w i = w i := by
  pointwise [k0_pay1]

theorem pay4_apply (w : Vec Ideal S1024x1024 .bf16) (i : S1024x1024.Idx) : k0_pay4 w i = w i := by
  pointwise [k0_pay4]

/-! ## What the kernel reads -/

section Reads

variable (ot : Dev nD → Vec Ideal S2x1024x1024 .bf16) (wo : Dev nD → Vec Ideal S1024x2048 .bf16) (c : Dev nD) (k : Fin 4)

/-- Chunk `k`'s batch, and where its rows begin among the rows of device `d`'s first coordinate. -/
def batch (k : Fin 4) : Fin 2 := ⟨k.val / 2, by omega⟩
def base (d : Dev nD) (k : Fin 4) : ℕ := 512 * (d.val / 2) + 256 * (d.val % 2) + 128 * (k.val % 2)

theorem base_lt (d : Dev nD) (k : Fin 4) (r : Fin 128) : base d k + r.val < 1024 := by
  have : d.val < 4 := d.isLt
  unfold base; omega

theorem nbOff_eq : nbOff c k = ![(batch k).val, 0, base (nbX c) k] := by
  have e : base (nbX c) k = (256 * (c.val % 2) + 128 * (k.val % 2) + 512) - 512 * (c.val / 2) := by
    have : c.val < 4 := c.isLt
    unfold base; rw [nbX_val]; omega
  rw [e]
  match k with
  | 0 => exact k0_off1_eq c 0
  | 1 => exact k0_off1_eq c 1
  | 2 => exact k0_off2_eq c 0
  | 3 => exact k0_off2_eq c 1

theorem ownOff_eq : ownOff c k = ![(batch k).val, 0, base c k] := by
  unfold base
  match k with
  | 0 => exact k0_off3_eq c 0
  | 1 => exact k0_off3_eq c 1
  | 2 => exact k0_off5_eq c 0
  | 3 => exact k0_off5_eq c 1

theorem nbAct_apply (j : Fin 1024) (r : Fin 128) :
    nbAct ot c k (ix3 0 j r) = ot c (ix3 (batch k) j ⟨base (nbX c) k + r.val, base_lt _ k r⟩) := by
  show ot c ((nbR c k).toLoadRect.idx (ix3 0 j r)) = _
  refine congrArg (ot c) (funext fun a => Fin.ext ?_)
  show nbOff c k a + 1 * _ = _
  rw [nbOff_eq]
  match a with
  | ⟨0, _⟩ => rfl
  | ⟨1, _⟩ => show 0 + 1 * j.val = j.val; omega
  | ⟨2, _⟩ => show base (nbX c) k + 1 * r.val = base (nbX c) k + r.val; omega

theorem ownAct_apply (j : Fin 1024) (r : Fin 128) :
    ownAct ot c k (ix3 0 j r) = ot c (ix3 (batch k) j ⟨base c k + r.val, base_lt _ k r⟩) := by
  show ot c ((ownR c k).toLoadRect.idx (ix3 0 j r)) = _
  refine congrArg (ot c) (funext fun a => Fin.ext ?_)
  show ownOff c k a + 1 * _ = _
  rw [ownOff_eq]
  match a with
  | ⟨0, _⟩ => rfl
  | ⟨1, _⟩ => show 0 + 1 * j.val = j.val; omega
  | ⟨2, _⟩ => show base c k + 1 * r.val = base c k + r.val; omega

theorem woL_apply (i : S1024x1024.Idx) : woL wo c i = wo c (ix2 (i 0) ⟨(i 1).val, by have h : (i 1).val < 1024 := (i 1).isLt; omega⟩) := by
  show wo c (halfL.toLoadRect.idx i) = _
  refine congrArg (wo c) (funext fun a => Fin.ext ?_)
  match a with
  | ⟨0, _⟩ => show 0 + 1 * (i 0).val = (i 0).val; omega
  | ⟨1, _⟩ => show 0 + 1 * (i 1).val = (i 1).val; omega

theorem woR_apply (i : S1024x1024.Idx) : woR wo c i = wo c (ix2 (i 0) ⟨1024 + (i 1).val, by have h : (i 1).val < 1024 := (i 1).isLt; omega⟩) := by
  show wo c (halfR.toLoadRect.idx i) = _
  refine congrArg (wo c) (funext fun a => Fin.ext ?_)
  match a with
  | ⟨0, _⟩ => show 0 + 1 * (i 0).val = (i 0).val; omega
  | ⟨1, _⟩ => show 1024 + 1 * (i 1).val = 1024 + (i 1).val; omega

/-- The scratch copy holds the weights. -/
theorem wcV_apply (j : Fin 1024) (n : Fin 2048) : wcV wo c (ix2 j n) = wo c (ix2 j n) := by
  have ei : allR.toLoadRect.idx (ix2 j n) = ix2 j n := funext fun a => Fin.ext (by
    match a with
    | ⟨0, _⟩ => show 0 + 1 * j.val = j.val; omega
    | ⟨1, _⟩ => show 0 + 1 * n.val = n.val; omega)
  show wcM.view.read (Elt Ideal) (wcM.view.writes (Elt Ideal) wcM.view.junk (wcWrites wo c)) (allR.toLoadRect.idx (ix2 j n)) = _
  rw [ei]
  by_cases h : n.val < 1024
  · refine (View.read_writes_cons_unit_of_not_mem _ _ _ _ _ _ rfl (1 : Fin 2) (.inl h)).trans
      ((View.read_writes_cons_unit_of_mem _ _ _ _ _ _ (ix2 j ⟨n.val, h⟩) rfl (fun a => ?_)).trans ?_)
    · match a with
      | ⟨0, _⟩ => show j.val = 0 + j.val; omega
      | ⟨1, _⟩ => show n.val = 0 + n.val; omega
    · rw [pay1_apply, woL_apply]; rfl
  · refine (View.read_writes_cons_unit_of_mem _ _ _ _ _ _ (ix2 j ⟨n.val - 1024, by omega⟩) rfl (fun a => ?_)).trans ?_
    · match a with
      | ⟨0, _⟩ => show j.val = 0 + j.val; omega
      | ⟨1, _⟩ => show n.val = 1024 + (n.val - 1024); omega
    · rw [pay4_apply, woR_apply]
      refine congrArg (wo c) (funext fun a => Fin.ext ?_)
      match a with
      | ⟨0, _⟩ => rfl
      | ⟨1, _⟩ => show 1024 + (n.val - 1024) = n.val; omega

/-! ## The parts -/

/-- Device `d`'s part of entry `(b, s, n)` of the product. -/
def part (d : Dev nD) (b : Fin 2) (s : Fin 1024) (n : Fin 2048) : EReal :=
  ∑ j : Fin 1024, ot d (ix3 b j s) * wo d (ix2 j n)

theorem ownV_apply (r : Fin 128) (n : Fin 2048) :
    ownV ot wo c k (ix3 0 r n) = part ot wo c (batch k) ⟨base c k + r.val, base_lt _ k r⟩ n := by
  unfold ownV part
  rw [pay11_apply]
  refine Finset.sum_congr rfl fun j _ => ?_
  exact congrArg₂ (· * ·) (ownAct_apply ot c k j r) (wcV_apply wo c j n)

/-- What is sent to the x-neighbour is a part of the x-neighbour's rows. -/
theorem xV_apply (r : Fin 128) (n : Fin 2048) :
    xV ot wo c k (ix3 0 r n) = part ot wo c (batch k) ⟨base (nbX c) k + r.val, base_lt _ k r⟩ n := by
  unfold xV part
  by_cases hk : k = 0
  · subst hk
    rw [if_pos rfl]
    have ei : (chunkR 0).toLoadRect.idx (ix3 0 r n) = ix3 0 r n := funext fun a => Fin.ext (by
      match a with
      | ⟨0, _⟩ => rfl
      | ⟨1, _⟩ => show 0 + 1 * r.val = r.val; omega
      | ⟨2, _⟩ => show 0 + 1 * n.val = n.val; omega)
    show xsM.view.read (Elt Ideal) (xsM.view.writes (Elt Ideal) xsM.view.junk (firstWrites ot wo c)) ((chunkR 0).toLoadRect.idx (ix3 0 r n)) = _
    rw [ei]
    by_cases h : n.val < 1024
    · refine (View.read_writes_cons_unit_of_not_mem _ _ _ _ _ _ rfl (2 : Fin 3) (.inl h)).trans
        ((View.read_writes_cons_unit_of_mem _ _ _ _ _ _ (ix3 0 r ⟨n.val, h⟩) rfl (fun a => ?_)).trans ?_)
      · match a with
        | ⟨0, _⟩ => rfl
        | ⟨1, _⟩ => show r.val = 0 + r.val; omega
        | ⟨2, _⟩ => show n.val = 0 + n.val; omega
      · rw [pay3_apply]
        refine Finset.sum_congr rfl fun j _ => ?_
        exact congrArg₂ (· * ·) (nbAct_apply ot c 0 j r) (woL_apply wo c (ix2 j ⟨n.val, h⟩))
    · refine (View.read_writes_cons_unit_of_mem _ _ _ _ _ _ (ix3 0 r ⟨n.val - 1024, by omega⟩) rfl (fun a => ?_)).trans ?_
      · match a with
        | ⟨0, _⟩ => rfl
        | ⟨1, _⟩ => show r.val = 0 + r.val; omega
        | ⟨2, _⟩ => show n.val = 1024 + (n.val - 1024); omega
      · rw [pay5_apply]
        refine Finset.sum_congr rfl fun j _ => ?_
        refine congrArg₂ (· * ·) (nbAct_apply ot c 0 j r) ((woR_apply wo c (ix2 j ⟨n.val - 1024, by omega⟩)).trans ?_)
        refine congrArg (wo c) (funext fun a => Fin.ext ?_)
        match a with
        | ⟨0, _⟩ => rfl
        | ⟨1, _⟩ => show 1024 + (n.val - 1024) = n.val; omega
  · rw [if_neg hk, pay6_apply]
    refine Finset.sum_congr rfl fun j _ => ?_
    exact congrArg₂ (· * ·) (nbAct_apply ot c k j r) (wcV_apply wo c j n)

/-- Device `d`'s part and its x-neighbour's. -/
def both (d : Dev nD) (b : Fin 2) (s : Fin 1024) (n : Fin 2048) : EReal := part ot wo d b s n + part ot wo (nbX d) b s n

theorem sumV_apply (r : Fin 128) (n : Fin 2048) :
    sumV ot wo c k (ix3 0 r n) = both ot wo c (batch k) ⟨base c k + r.val, base_lt _ k r⟩ n := by
  unfold sumV both
  rw [pay21_apply, ownV_apply, xV_apply]
  simp only [nbX_nbX]

theorem takenV_apply (r : Fin 128) (n : Fin 2048) :
    takenV ot wo c k (ix3 0 r n) = both ot wo (nbY c) (batch k) ⟨base (nbY c) k + r.val, base_lt _ k r⟩ n := by
  unfold takenV both
  rw [pay30_apply]
  unfold yV
  rw [pay20_apply, ownV_apply, xV_apply]
  simp only [nbX_nbX]

/-- Entry `(b, i, n)` of a device's result, from a device with the same first coordinate and its x-neighbour. -/
theorem outF_eq (b : Fin 2) (i : Fin 512) (n : Fin 2048) :
    ∃ d : Dev nD, d.val / 2 = c.val / 2 ∧
      outF ot wo c (ix3 b i n) = both ot wo d b ⟨512 * (c.val / 2) + i.val, by have : c.val < 4 := c.isLt; omega⟩ n := by
  have hc : c.val < 4 := c.isLt
  have el : locAt (ix3 b i n) = ix3 0 ⟨i.val % 128, Nat.mod_lt _ (by decide)⟩ n := funext fun a => Fin.ext (by
    match a with
    | ⟨0, _⟩ => rfl
    | ⟨1, _⟩ => rfl
    | ⟨2, _⟩ => rfl)
  have ek : (chkAt (ix3 b i n)).val = 2 * b.val + i.val / 128 % 2 := rfl
  have eb : batch (chkAt (ix3 b i n)) = b := Fin.ext (by show (chkAt (ix3 b i n)).val / 2 = b.val; rw [ek]; omega)
  have eh : halfAt c (ix3 b i n) = decide (i.val / 256 = c.val % 2) := rfl
  unfold outF
  rw [el, eh]
  by_cases h : i.val / 256 = c.val % 2
  · refine ⟨c, rfl, ?_⟩
    rw [decide_eq_true h]
    refine (sumV_apply ot wo c _ _ n).trans ?_
    rw [eb]
    congr 1
    apply Fin.ext
    show base c (chkAt (ix3 b i n)) + i.val % 128 = _
    unfold base; rw [ek]; show _ = 512 * (c.val / 2) + i.val; omega
  · refine ⟨nbY c, by rw [nbY_val]; omega, ?_⟩
    rw [decide_eq_false h]
    refine (takenV_apply ot wo c _ _ n).trans ?_
    rw [eb]
    congr 1
    apply Fin.ext
    show base (nbY c) (chkAt (ix3 b i n)) + i.val % 128 = _
    unfold base; rw [ek, nbY_val]; show _ = 512 * (c.val / 2) + i.val; omega

end Reads

end Cert.KernelIdeal.Values

end
-- ==== Proof.Bridge.lean ====
/- The kernel's result and the reference's.

   The reference multiplies whole rows of 2048 positions by the whole weights. A device with first coordinate `x` holds
   positions `1024 x` to `1024 x + 1023` of both, so its part is half of the reference's sum, and a device's part and its
   x-neighbour's make the whole (`both_eq`). The result's rows are cut by the first coordinate too, 512 to each (`block_eq`). -/
module

public import proofs.«01_k».proof.Proof.Values
public import proofs.«01_k».proof.Proof.Region
public import proofs.«01_k».proof.Proof.Gen.ReferenceIdeal.Run
public import Idealize.ShloMosaic.Lib.Layout

@[expose] public section

set_option maxRecDepth 16384

noncomputable section

namespace Cert.KernelIdeal.Bridge

open Idealize.ShloMosaic Idealize.ShloMosaic.TcCoe
open Cert.KernelIdeal.Gen Cert.KernelIdeal.Plan Cert.KernelIdeal.Proto Cert.KernelIdeal.Body Cert.KernelIdeal.Region Cert.KernelIdeal.Values

/-! ## The reference at an index -/

/-- The reference's result, of the whole activations and weights. -/
def refOut (o : FVec Ideal Cert.ReferenceIdeal.S2x1024x32x64 .bf16) (w : FVec Ideal Cert.ReferenceIdeal.S2048x2048 .bf16) : FVec Ideal Cert.ReferenceIdeal.S2x1024x2048 .f32 :=
  extf .f32 (truncf .bf16 (Host.dotGeneral Cert.ReferenceIdeal.dot_S2x1024x2048_S2048x2048_S2x1024x2048_2_0_01_1_n_n none
    (shapeCast Cert.ReferenceIdeal.S2x1024x2048 o Cert.ReferenceIdeal.Gen.shapeCasts_S2x1024x32x64_S2x1024x2048) w) Cert.ReferenceIdeal.Gen.bitsLt_bf16_f32) Cert.ReferenceIdeal.Gen.bitsLt_bf16_f32

/-- One position's product in entry `(b, s, n)`. -/
def term (o : Vec Ideal Cert.ReferenceIdeal.S2x1024x32x64 .bf16) (w : Vec Ideal Cert.ReferenceIdeal.S2048x2048 .bf16) (b : Fin 2) (s : Fin 1024) (n : Fin 2048) (p : Fin 2048) : EReal :=
  o (ix4 b s ⟨p.val / 64, by omega⟩ ⟨p.val % 64, by omega⟩) * w (ix2 p n)

theorem refOut_apply (o : Vec Ideal Cert.ReferenceIdeal.S2x1024x32x64 .bf16) (w : Vec Ideal Cert.ReferenceIdeal.S2048x2048 .bf16) (b : Fin 2) (s : Fin 1024) (n : Fin 2048) :
    refOut o w (ix3 b s n) = ∑ p : Fin 2048, term o w b s n p := by
  unfold refOut term
  pointwise []

/-! ## The activations the region finds -/

theorem otOf_apply (m : (ℓ : Loc nD τ sig) → Buf (Elt Ideal) ℓ) (c : Dev nD) (b : Fin 2) (j : Fin 1024) (s : Fin 1024) :
    otOf m c (ix3 b j s) = (m ((c : Thread nD τ).loc main_arg0) : Vec Ideal S2x1024x16x64 .bf16) (ix4 b s ⟨j.val / 64, by omega⟩ ⟨j.val % 64, by omega⟩) := by
  have e : otOf m c = (shapeCast S2x1024x1024 (transpose S2x16x64x1024 [0, 2, 3, 1] (m ((c : Thread nD τ).loc main_arg0) : Vec Ideal S2x1024x16x64 .bf16) transposes_S2x1024x16x64_S2x16x64x1024_0_2_3_1) shapeCasts_S2x16x64x1024_S2x1024x1024 : Vec Ideal S2x1024x1024 .bf16) := by
    show StableHlo.after hostOps0 (fun b => m (c, b)) main_v2 = _
    after_results
    rfl
  rw [e]
  pointwise []

/-! ## A device's part of the reference's sum -/

section Parts

variable (m : (ℓ : Loc nD τ sig) → Buf (Elt Ideal) ℓ)
variable (o : Vec Ideal Cert.ReferenceIdeal.S2x1024x32x64 .bf16) (w : Vec Ideal Cert.ReferenceIdeal.S2048x2048 .bf16)

/-- Every device holds its half of the activations' heads and of the weights' rows. -/
def Holds : Prop :=
  ∀ c : Dev nD,
    m ((c.tc : Thread nD τ).loc main_arg0) = Layout.blockN ⟨4, ![2, 1024, 16, 64]⟩ ⟨4, ![2, 1024, 32, 64]⟩ (Layout.meshBlock [2, 2] ![[], [], [0], []] c) o
    ∧ m ((c.tc : Thread nD τ).loc main_arg1) = Layout.blockN ⟨2, ![1024, 2048]⟩ ⟨2, ![2048, 2048]⟩ (Layout.meshBlock [2, 2] ![[0], []] c) w

/-- Device `c`'s block number along the mesh's first axis. -/
theorem lin0 (c : Dev nD) : Layout.meshLin [2, 2] c.val [0] = c.val / 2 := by
  revert c; decide

variable {m o w} (h : Holds m o w)
include h

theorem part_eq (d : Dev nD) (b : Fin 2) (s : Fin 1024) (n : Fin 2048) :
    part (otOf m) (woOf m) d b s n
      = ∑ j : Fin 1024, term o w b s n ⟨1024 * (d.val / 2) + j.val, by have : d.val < 4 := d.isLt; omega⟩ := by
  unfold part
  refine Finset.sum_congr rfl fun j _ => ?_
  unfold term
  refine congrArg₂ (· * ·) ?_ ?_
  · rw [otOf_apply, (h d).1]
    refine congrArg o (funext fun a => Fin.ext ?_)
    rw [Layout.TilesN.idx_val]
    match a with
    | ⟨0, _⟩ => show 0 * 2 + b.val = b.val; omega
    | ⟨1, _⟩ => show 0 * 1024 + s.val = s.val; omega
    | ⟨2, _⟩ => show Layout.meshLin [2, 2] d.val [0] * 16 + j.val / 64 = (1024 * (d.val / 2) + j.val) / 64; rw [lin0]; omega
    | ⟨3, _⟩ => show 0 * 64 + j.val % 64 = (1024 * (d.val / 2) + j.val) % 64; omega
  · show V m d main_arg1 (ix2 j n) = _
    rw [V_main_arg1, (h d).2]
    refine congrArg w (funext fun a => Fin.ext ?_)
    rw [Layout.TilesN.idx_val]
    match a with
    | ⟨0, _⟩ => show Layout.meshLin [2, 2] d.val [0] * 1024 + j.val = 1024 * (d.val / 2) + j.val; rw [lin0]; omega
    | ⟨1, _⟩ => show 0 * 2048 + n.val = n.val; omega

/-- A device's part and its x-neighbour's are the reference's whole sum. -/
theorem both_eq (d : Dev nD) (b : Fin 2) (s : Fin 1024) (n : Fin 2048) :
    both (otOf m) (woOf m) d b s n = ∑ p : Fin 2048, term o w b s n p := by
  have hd : d.val < 4 := d.isLt
  have hx := nbX_val d
  have low (e : Dev nD) (he : e.val / 2 = 0) :
      part (otOf m) (woOf m) e b s n = ∑ j : Fin 1024, term o w b s n ⟨j.val, by omega⟩ := by
    rw [part_eq h]
    exact Finset.sum_congr rfl fun j _ => congrArg _ (Fin.ext (by show 1024 * (e.val / 2) + j.val = j.val; omega))
  have high (e : Dev nD) (he : e.val / 2 = 1) :
      part (otOf m) (woOf m) e b s n = ∑ j : Fin 1024, term o w b s n ⟨1024 + j.val, by omega⟩ := by
    rw [part_eq h]
    exact Finset.sum_congr rfl fun j _ => congrArg _ (Fin.ext (by show 1024 * (e.val / 2) + j.val = 1024 + j.val; omega))
  rw [Fin.sum_univ_two_halves 1024 1024 rfl]
  unfold both
  rcases (by omega : d.val / 2 = 0 ∨ d.val / 2 = 1) with e | e
  · rw [low d e, high (nbX d) (by omega)]
  · rw [high d e, low (nbX d) (by omega), add_comm]

/-- A device's result is its block of the reference's. -/
theorem block_eq (c : Dev nD) :
    outOf m c = Layout.blockN ⟨3, ![2, 512, 2048]⟩ ⟨3, ![2, 1024, 2048]⟩ (Layout.meshBlock [2, 2] ![[], [0], []] c) (refOut o w) := by
  have hc : c.val < 4 := c.isLt
  funext i
  obtain ⟨b, r, n, rfl⟩ : ∃ (b : Fin 2) (r : Fin 512) (n : Fin 2048), i = ix3 b r n := ⟨i 0, i 1, i 2, eq_ix3 i⟩
  obtain ⟨d, -, e⟩ := outF_eq (otOf m) (woOf m) c b r n
  refine (e.trans (both_eq h d b _ n)).trans ?_
  rw [← refOut_apply, Layout.blockN_apply]
  refine congrArg (refOut o w) (funext fun a => Fin.ext ?_)
  rw [Layout.TilesN.idx_val]
  match a with
  | ⟨0, _⟩ => show b.val = 0 * 2 + b.val; omega
  | ⟨1, _⟩ => show 512 * (c.val / 2) + r.val = Layout.meshLin [2, 2] c.val [0] * 512 + r.val; rw [lin0]; omega
  | ⟨2, _⟩ => show n.val = 0 * 2048 + n.val; omega

end Parts

end Cert.KernelIdeal.Bridge

end
-- ==== Proof.lean ====
/- The certificate's claims, each from the modules under Proof/: the frames of the kernel, of its idealization and of the
   reference, that the idealization preserves the kernel, and that over the extended reals every device's result is its block
   of the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Bridge
public import Idealize.ShloMosaic.Adequacy
public import Idealize.ShloMosaic.Init

@[expose] public section

noncomputable section

namespace Cert.Proof

open Idealize.ShloMosaic Idealize.SL.Sem Cert.Kernel

set_option smartUnfolding false in
/-- The printed kernel and its idealization are one text, so one run serves both. -/
theorem frame_kernel : Cert.quiescent_Kernel := fun m ρ _ => Cert.KernelIdeal.Launch.run_frame (F := Bits) m ρ

theorem frame_ideal : Cert.quiescent_KernelIdeal := fun m ρ _ => Cert.KernelIdeal.Launch.run_frame (F := Ideal) m ρ

/-- The reference has no semaphore, so its run alone is its frame. -/
theorem frame_reference : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run (F := Ideal) m ρ)

/-- The reference's whole activations and weights in its memory. -/
abbrev wholeO (m' : (ℓ : Loc Cert.ReferenceIdeal.nD Cert.ReferenceIdeal.τ Cert.ReferenceIdeal.sig) → Buf (Elt Ideal) ℓ) : FVec Ideal Cert.ReferenceIdeal.S2x1024x32x64 .bf16 :=
  m' (((0 : Dev Cert.ReferenceIdeal.nD).tc : Thread Cert.ReferenceIdeal.nD Cert.ReferenceIdeal.τ).loc Cert.ReferenceIdeal.main_arg0)
abbrev wholeW (m' : (ℓ : Loc Cert.ReferenceIdeal.nD Cert.ReferenceIdeal.τ Cert.ReferenceIdeal.sig) → Buf (Elt Ideal) ℓ) : FVec Ideal Cert.ReferenceIdeal.S2048x2048 .bf16 :=
  m' (((0 : Dev Cert.ReferenceIdeal.nD).tc : Thread Cert.ReferenceIdeal.nD Cert.ReferenceIdeal.τ).loc Cert.ReferenceIdeal.main_arg1)

/-- Over the extended reals every device's result is its block of the reference's. -/
theorem value : Cert.algebraic_KernelIdeal_ReferenceIdeal := fun m ρ m' ρ' _ h =>
  ⟨Cert.KernelIdeal.Bridge.refOut (wholeO m') (wholeW m'),
    (θ_run Cert.KernelIdeal.defs _ _).mono
      (fun r g c => ⟨(g.1 c).2.2.trans (Cert.KernelIdeal.Bridge.block_eq (m := m) (o := wholeO m') (w := wholeW m') h c), (g.1 c).1, (g.1 c).2.1⟩)
      (Cert.KernelIdeal.Launch.run_main (F := Ideal) m ρ),
    (θ_run Cert.ReferenceIdeal.defs _ _).mono (fun r g => ⟨(g 0).1, (g 0).2⟩) (Cert.ReferenceIdeal.Value.run (F := Ideal) m' ρ')⟩

theorem claim : Cert.Claim := ⟨Cert.Kernel.Gen.facts, Cert.KernelIdeal.Gen.facts, Cert.ReferenceIdeal.Gen.facts,
  frame_kernel, frame_ideal, frame_reference, trivial, value⟩

end Cert.Proof

end
